-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_types_in_range [hPre_types_in_range : Cert.Pre_types_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_types_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_types_in_range [hPre_types_in_range : Cert.Pre_types_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_types_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ r.2.sem = fun _ => 0)

def quiescent_KernelIdeal_pre_types_in_range [hKernelIdeal : Cert.KernelIdeal.Facts] [hPre_types_in_range : Cert.Pre_types_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_types_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))
      ∧ r.2.sem = fun _ => 0)

def quiescent_ReferenceIdeal_pre_types_in_range [hReferenceIdeal : Cert.ReferenceIdeal.Facts] [hPre_types_in_range : Cert.Pre_types_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_types_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))
      ∧ r.2.sem = fun _ => 0)

def preserves_Kernel_KernelIdeal : Prop :=
  True

def algebraic_KernelIdeal_ReferenceIdeal_pre_types_in_range [hKernelIdeal : Cert.KernelIdeal.Facts] [hReferenceIdeal : Cert.ReferenceIdeal.Facts] [hPre_types_in_range : Cert.Pre_types_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_types_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v18)) (v3 : (c : Dev Cert.KernelIdeal.nD) → Buf (Elt Ideal) ((c.tc : Thread Cert.KernelIdeal.nD Cert.KernelIdeal.τ).loc Cert.KernelIdeal.main_v19)) (v4 : (c : Dev Cert.KernelIdeal.nD) → Buf (Elt Ideal) ((c.tc : Thread Cert.KernelIdeal.nD Cert.KernelIdeal.τ).loc Cert.KernelIdeal.main_v13_3)) (v5 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_v19) = v3 c
          ∧ r.2.mem ((c.tc : Thread Cert.KernelIdeal.nD Cert.KernelIdeal.τ).loc Cert.KernelIdeal.main_v13_3) = v4 c
          ∧ r.2.mem ((c.tc : Thread Cert.KernelIdeal.nD Cert.KernelIdeal.τ).loc Cert.KernelIdeal.main_v20) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_v73) = v2 c
          ∧ r.2.mem ((c.tc : Thread Cert.ReferenceIdeal.nD Cert.ReferenceIdeal.τ).loc Cert.ReferenceIdeal.main_v78) = v3 c
          ∧ r.2.mem ((c.tc : Thread Cert.ReferenceIdeal.nD Cert.ReferenceIdeal.τ).loc Cert.ReferenceIdeal.main_v68) = v4 c
          ∧ r.2.mem ((c.tc : Thread Cert.ReferenceIdeal.nD Cert.ReferenceIdeal.τ).loc Cert.ReferenceIdeal.main_v63) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_types_in_range : Cert.Pre_types_in_range.Facts),
    quiescent_Kernel (hKernel := hKernel)
    ∧ quiescent_KernelIdeal (hKernelIdeal := hKernelIdeal)
    ∧ quiescent_KernelIdeal_pre_types_in_range (hKernelIdeal := hKernelIdeal) (hPre_types_in_range := hPre_types_in_range)
    ∧ quiescent_ReferenceIdeal (hReferenceIdeal := hReferenceIdeal)
    ∧ quiescent_ReferenceIdeal_pre_types_in_range (hReferenceIdeal := hReferenceIdeal) (hPre_types_in_range := hPre_types_in_range)
    ∧ preserves_Kernel_KernelIdeal
    ∧ algebraic_KernelIdeal_ReferenceIdeal_pre_types_in_range (hKernelIdeal := hKernelIdeal) (hReferenceIdeal := hReferenceIdeal) (hPre_types_in_range := hPre_types_in_range)
-- ==== Pre_types_in_range.lean ====
abbrev S16384x12 : Shape := ⟨2, ![16384, 12]⟩
abbrev S16384 : Shape := ⟨1, ![16384]⟩
abbrev S5x16 : Shape := ⟨2, ![5, 16]⟩
abbrev S5x32x12 : Shape := ⟨3, ![5, 32, 12]⟩
abbrev S5x32 : Shape := ⟨2, ![5, 32]⟩
abbrev S512x48 : Shape := ⟨2, ![512, 48]⟩
abbrev S512 : Shape := ⟨1, ![512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S128x128 : Shape := ⟨2, ![128, 128]⟩
abbrev S4x128 : Shape := ⟨2, ![4, 128]⟩
abbrev S4 : Shape := ⟨1, ![4]⟩
abbrev S128x4 : Shape := ⟨2, ![128, 4]⟩
abbrev S256x144 : Shape := ⟨2, ![256, 144]⟩
abbrev S512x256 : Shape := ⟨2, ![512, 256]⟩
abbrev S32x512 : Shape := ⟨2, ![32, 512]⟩
abbrev S32 : Shape := ⟨1, ![32]⟩
abbrev S5x128 : Shape := ⟨2, ![5, 128]⟩
abbrev S5 : Shape := ⟨1, ![5]⟩
abbrev S2x128 : Shape := ⟨2, ![2, 128]⟩
abbrev S2 : Shape := ⟨1, ![2]⟩
abbrev S5x12x32 : Shape := ⟨3, ![5, 12, 32]⟩
abbrev S5x12 : Shape := ⟨2, ![5, 12]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384x12 .f32) (main_arg1 : IVec S16384 32) (main_arg2 : FVec F S5x16 .f32) (main_arg3 : FVec F S5x32x12 .f32) (main_arg4 : FVec F S5x32 .f32) (main_arg5 : FVec F S512x48 .f32) (main_arg6 : FVec F S512 .f32) (main_arg7 : FVec F S256x512 .f32) (main_arg8 : FVec F S256 .f32) (main_arg9 : FVec F S128x256 .f32) (main_arg10 : FVec F S128 .f32) (main_arg11 : FVec F S128x128 .f32) (main_arg12 : FVec F S128 .f32) (main_arg13 : FVec F S4x128 .f32) (main_arg14 : FVec F S4 .f32) (main_arg15 : FVec F S128x4 .f32) (main_arg16 : FVec F S128 .f32) (main_arg17 : FVec F S256x144 .f32) (main_arg18 : FVec F S256 .f32) (main_arg19 : FVec F S512x256 .f32) (main_arg20 : FVec F S512 .f32) (main_arg21 : FVec F S32x512 .f32) (main_arg22 : FVec F S32 .f32) (main_arg23 : FVec F S5x128 .f32) (main_arg24 : FVec F S5 .f32) (main_arg25 : FVec F S2x128 .f32) (main_arg26 : FVec F S2 .f32) (main_arg27 : FVec F S5x12x32 .f32) (main_arg28 : FVec F S5x12 .f32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 5#32
  let main_v2 : IVec S16384 32 := broadcastInDim S16384 ![] bcast_S_S16384 main_c_0
  let main_v3 : IVec S16384 1 := cmpi .slt main_arg1 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384x12 : Shape := ⟨2, ![16384, 12]⟩
abbrev S16384 : Shape := ⟨1, ![16384]⟩
abbrev S5x16 : Shape := ⟨2, ![5, 16]⟩
abbrev S5x32x12 : Shape := ⟨3, ![5, 32, 12]⟩
abbrev S5x32 : Shape := ⟨2, ![5, 32]⟩
abbrev S512x48 : Shape := ⟨2, ![512, 48]⟩
abbrev S512 : Shape := ⟨1, ![512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S128x128 : Shape := ⟨2, ![128, 128]⟩
abbrev S4x128 : Shape := ⟨2, ![4, 128]⟩
abbrev S4 : Shape := ⟨1, ![4]⟩
abbrev S128x4 : Shape := ⟨2, ![128, 4]⟩
abbrev S256x144 : Shape := ⟨2, ![256, 144]⟩
abbrev S512x256 : Shape := ⟨2, ![512, 256]⟩
abbrev S32x512 : Shape := ⟨2, ![32, 512]⟩
abbrev S32 : Shape := ⟨1, ![32]⟩
abbrev S5x128 : Shape := ⟨2, ![5, 128]⟩
abbrev S5 : Shape := ⟨1, ![5]⟩
abbrev S2x128 : Shape := ⟨2, ![2, 128]⟩
abbrev S2 : Shape := ⟨1, ![2]⟩
abbrev S5x12x32 : Shape := ⟨3, ![5, 12, 32]⟩
abbrev S5x12 : Shape := ⟨2, ![5, 12]⟩
abbrev S1x16384 : Shape := ⟨2, ![1, 16384]⟩
abbrev S48x512 : Shape := ⟨2, ![48, 512]⟩
abbrev S144x256 : Shape := ⟨2, ![144, 256]⟩
abbrev S4x1 : Shape := ⟨2, ![4, 1]⟩
abbrev S12x16384 : Shape := ⟨2, ![12, 16384]⟩
abbrev S12x512 : Shape := ⟨2, ![12, 512]⟩
abbrev S_ : Shape := ⟨0, ![]⟩
abbrev S16 : Shape := ⟨1, ![16]⟩
abbrev S1x16 : Shape := ⟨2, ![1, 16]⟩
abbrev S1x512 : Shape := ⟨2, ![1, 512]⟩
abbrev S5x16384 : Shape := ⟨2, ![5, 16384]⟩
abbrev S2x16384 : Shape := ⟨2, ![2, 16384]⟩
abbrev S16384x128 : Shape := ⟨2, ![16384, 128]⟩
abbrev S1x4096 : Shape := ⟨2, ![1, 4096]⟩
abbrev S12x4096 : Shape := ⟨2, ![12, 4096]⟩
abbrev S5x4096 : Shape := ⟨2, ![5, 4096]⟩
abbrev S2x4096 : Shape := ⟨2, ![2, 4096]⟩
abbrev S4096x128 : Shape := ⟨2, ![4096, 128]⟩
abbrev S16x4096 : Shape := ⟨2, ![16, 4096]⟩
abbrev S1x12x32 : Shape := ⟨3, ![1, 12, 32]⟩
abbrev S12x32 : Shape := ⟨2, ![12, 32]⟩
abbrev S32x4096 : Shape := ⟨2, ![32, 4096]⟩
abbrev S4096x512 : Shape := ⟨2, ![4096, 512]⟩
abbrev S16x512 : Shape := ⟨2, ![16, 512]⟩
abbrev S4096x256 : Shape := ⟨2, ![4096, 256]⟩
abbrev S1x256 : Shape := ⟨2, ![1, 256]⟩
abbrev S1x128 : Shape := ⟨2, ![1, 128]⟩
abbrev S4x4096 : Shape := ⟨2, ![4, 4096]⟩
abbrev S4096 : Shape := ⟨1, ![4096]⟩
abbrev S5x1 : Shape := ⟨2, ![5, 1]⟩
abbrev S2x1 : Shape := ⟨2, ![2, 1]⟩
abbrev S16x256 : Shape := ⟨2, ![16, 256]⟩
abbrev S4096x32 : Shape := ⟨2, ![4096, 32]⟩
abbrev S1x32 : Shape := ⟨2, ![1, 32]⟩
abbrev S60x32 : Shape := ⟨2, ![60, 32]⟩
abbrev S60x4096 : Shape := ⟨2, ![60, 4096]⟩
abbrev S16384x5 : Shape := ⟨2, ![16384, 5]⟩
abbrev S16384x2 : Shape := ⟨2, ![16384, 2]⟩

abbrev nBuf : Table → Nat
  | .hbm => 60
  | .local .tc .vmem => 46
  | .local .scVector .vmem => 2
  | _ => 0

abbrev bufTy : (tb : Table) → Fin (nBuf tb) → BufTy
  | .hbm, ⟨0, _⟩ => ⟨S16384x12, .f32⟩
  | .hbm, ⟨1, _⟩ => ⟨S16384, .i32⟩
  | .hbm, ⟨2, _⟩ => ⟨S5x16, .f32⟩
  | .hbm, ⟨3, _⟩ => ⟨S5x32x12, .f32⟩
  | .hbm, ⟨4, _⟩ => ⟨S5x32, .f32⟩
  | .hbm, ⟨5, _⟩ => ⟨S512x48, .f32⟩
  | .hbm, ⟨6, _⟩ => ⟨S512, .f32⟩
  | .hbm, ⟨7, _⟩ => ⟨S256x512, .f32⟩
  | .hbm, ⟨8, _⟩ => ⟨S256, .f32⟩
  | .hbm, ⟨9, _⟩ => ⟨S128x256, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S4x128, .f32⟩
  | .hbm, ⟨14, _⟩ => ⟨S4, .f32⟩
  | .hbm, ⟨15, _⟩ => ⟨S128x4, .f32⟩
  | .hbm, ⟨16, _⟩ => ⟨S128, .f32⟩
  | .hbm, ⟨17, _⟩ => ⟨S256x144, .f32⟩
  | .hbm, ⟨18, _⟩ => ⟨S256, .f32⟩
  | .hbm, ⟨19, _⟩ => ⟨S512x256, .f32⟩
  | .hbm, ⟨20, _⟩ => ⟨S512, .f32⟩
  | .hbm, ⟨21, _⟩ => ⟨S32x512, .f32⟩
  | .hbm, ⟨22, _⟩ => ⟨S32, .f32⟩
  | .hbm, ⟨23, _⟩ => ⟨S5x128, .f32⟩
  | .hbm, ⟨24, _⟩ => ⟨S5, .f32⟩
  | .hbm, ⟨25, _⟩ => ⟨S2x128, .f32⟩
  | .hbm, ⟨26, _⟩ => ⟨S2, .f32⟩
  | .hbm, ⟨27, _⟩ => ⟨S5x12x32, .f32⟩
  | .hbm, ⟨28, _⟩ => ⟨S5x12, .f32⟩
  | .hbm, ⟨29, _⟩ => ⟨S4, .f32⟩
  | .hbm, ⟨30, _⟩ => ⟨S4, .f32⟩
  | .hbm, ⟨31, _⟩ => ⟨S4, .f32⟩
  | .hbm, ⟨32, _⟩ => ⟨S4, .f32⟩
  | .hbm, ⟨33, _⟩ => ⟨S4, .f32⟩
  | .hbm, ⟨34, _⟩ => ⟨S1x16384, .i32⟩
  | .hbm, ⟨35, _⟩ => ⟨S5x12x32, .f32⟩
  | .hbm, ⟨36, _⟩ => ⟨S48x512, .f32⟩
  | .hbm, ⟨37, _⟩ => ⟨S4x128, .f32⟩
  | .hbm, ⟨38, _⟩ => ⟨S144x256, .f32⟩
  | .hbm, ⟨39, _⟩ => ⟨S4x1, .f32⟩
  | .hbm, ⟨40, _⟩ => ⟨S4x1, .f32⟩
  | .hbm, ⟨41, _⟩ => ⟨S4x1, .f32⟩
  | .hbm, ⟨42, _⟩ => ⟨S4x1, .f32⟩
  | .hbm, ⟨43, _⟩ => ⟨S4x1, .f32⟩
  | .hbm, ⟨44, _⟩ => ⟨S12x16384, .f32⟩
  | .hbm, ⟨45, _⟩ => ⟨S16384, .i32⟩
  | .hbm, ⟨46, _⟩ => ⟨S12x16384, .f32⟩
  | .hbm, ⟨47, _⟩ => ⟨S12x16384, .f32⟩
  | .hbm, ⟨48, _⟩ => ⟨S5x16384, .f32⟩
  | .hbm, ⟨49, _⟩ => ⟨S2x16384, .f32⟩
  | .hbm, ⟨50, _⟩ => ⟨S16384x128, .f32⟩
  | .hbm, ⟨51, _⟩ => ⟨S1x16384, .i32⟩
  | .hbm, ⟨52, _⟩ => ⟨S16384x12, .f32⟩
  | .hbm, ⟨53, _⟩ => ⟨S_, .f32⟩
  | .hbm, ⟨54, _⟩ => ⟨S16384x12, .f32⟩
  | .hbm, ⟨55, _⟩ => ⟨S16384x12, .i1⟩
  | .hbm, ⟨56, _⟩ => ⟨S16384x12, .f32⟩
  | .hbm, ⟨57, _⟩ => ⟨S16384x5, .f32⟩
  | .hbm, ⟨58, _⟩ => ⟨S16384x2, .f32⟩
  | .hbm, ⟨59, _⟩ => ⟨S16384, .i32⟩
  | .local .tc .vmem, ⟨0, _⟩ => ⟨S1x4096, .i32⟩
  | .local .tc .vmem, ⟨1, _⟩ => ⟨S1x4096, .i32⟩
  | .local .tc .vmem, ⟨2, _⟩ => ⟨S12x4096, .f32⟩
  | .local .tc .vmem, ⟨3, _⟩ => ⟨S12x4096, .f32⟩
  | .local .tc .vmem, ⟨4, _⟩ => ⟨S5x12x32, .f32⟩
  | .local .tc .vmem, ⟨5, _⟩ => ⟨S5x32, .f32⟩
  | .local .tc .vmem, ⟨6, _⟩ => ⟨S48x512, .f32⟩
  | .local .tc .vmem, ⟨7, _⟩ => ⟨S512, .f32⟩
  | .local .tc .vmem, ⟨8, _⟩ => ⟨S256x512, .f32⟩
  | .local .tc .vmem, ⟨9, _⟩ => ⟨S256, .f32⟩
  | .local .tc .vmem, ⟨10, _⟩ => ⟨S128x256, .f32⟩
  | .local .tc .vmem, ⟨11, _⟩ => ⟨S128, .f32⟩
  | .local .tc .vmem, ⟨12, _⟩ => ⟨S128x128, .f32⟩
  | .local .tc .vmem, ⟨13, _⟩ => ⟨S128, .f32⟩
  | .local .tc .vmem, ⟨14, _⟩ => ⟨S4x128, .f32⟩
  | .local .tc .vmem, ⟨15, _⟩ => ⟨S4, .f32⟩
  | .local .tc .vmem, ⟨16, _⟩ => ⟨S4x128, .f32⟩
  | .local .tc .vmem, ⟨17, _⟩ => ⟨S128, .f32⟩
  | .local .tc .vmem, ⟨18, _⟩ => ⟨S5x128, .f32⟩
  | .local .tc .vmem, ⟨19, _⟩ => ⟨S5, .f32⟩
  | .local .tc .vmem, ⟨20, _⟩ => ⟨S2x128, .f32⟩
  | .local .tc .vmem, ⟨21, _⟩ => ⟨S2, .f32⟩
  | .local .tc .vmem, ⟨22, _⟩ => ⟨S144x256, .f32⟩
  | .local .tc .vmem, ⟨23, _⟩ => ⟨S256, .f32⟩
  | .local .tc .vmem, ⟨24, _⟩ => ⟨S512x256, .f32⟩
  | .local .tc .vmem, ⟨25, _⟩ => ⟨S512, .f32⟩
  | .local .tc .vmem, ⟨26, _⟩ => ⟨S32x512, .f32⟩
  | .local .tc .vmem, ⟨27, _⟩ => ⟨S32, .f32⟩
  | .local .tc .vmem, ⟨28, _⟩ => ⟨S5x12x32, .f32⟩
  | .local .tc .vmem, ⟨29, _⟩ => ⟨S5x12, .f32⟩
  | .local .tc .vmem, ⟨30, _⟩ => ⟨S5x16, .f32⟩
  | .local .tc .vmem, ⟨31, _⟩ => ⟨S4x1, .f32⟩
  | .local .tc .vmem, ⟨32, _⟩ => ⟨S4x1, .f32⟩
  | .local .tc .vmem, ⟨33, _⟩ => ⟨S4x1, .f32⟩
  | .local .tc .vmem, ⟨34, _⟩ => ⟨S4x1, .f32⟩
  | .local .tc .vmem, ⟨35, _⟩ => ⟨S4x1, .f32⟩
  | .local .tc .vmem, ⟨36, _⟩ => ⟨S12x4096, .f32⟩
  | .local .tc .vmem, ⟨37, _⟩ => ⟨S12x4096, .f32⟩
  | .local .tc .vmem, ⟨38, _⟩ => ⟨S5x4096, .f32⟩
  | .local .tc .vmem, ⟨39, _⟩ => ⟨S5x4096, .f32⟩
  | .local .tc .vmem, ⟨40, _⟩ => ⟨S2x4096, .f32⟩
  | .local .tc .vmem, ⟨41, _⟩ => ⟨S2x4096, .f32⟩
  | .local .tc .vmem, ⟨42, _⟩ => ⟨S4096x128, .f32⟩
  | .local .tc .vmem, ⟨43, _⟩ => ⟨S4096x128, .f32⟩
  | .local .tc .vmem, ⟨44, _⟩ => ⟨S1x4096, .i32⟩
  | .local .tc .vmem, ⟨45, _⟩ => ⟨S1x4096, .i32⟩
  | .local .scVector .vmem, ⟨0, _⟩ => ⟨S512, .i32⟩
  | .local .scVector .vmem, ⟨1, _⟩ => ⟨S12x512, .f32⟩
  | _, _ => ⟨S16384x12, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 59 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTables nBuf rfl bufTy 4 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_cst : Ref sig .tc := ⟨.hbm, 29, rfl⟩
abbrev main_cst_0 : Ref sig .tc := ⟨.hbm, 30, rfl⟩
abbrev main_cst_1 : Ref sig .tc := ⟨.hbm, 31, rfl⟩
abbrev main_cst_2 : Ref sig .tc := ⟨.hbm, 32, rfl⟩
abbrev main_cst_3 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13_0 : Ref sig .tc := ⟨.hbm, 47, rfl⟩
abbrev main_v13_1 : Ref sig .tc := ⟨.hbm, 48, rfl⟩
abbrev main_v13_2 : Ref sig .tc := ⟨.hbm, 49, rfl⟩
abbrev main_v13_3 : Ref sig .tc := ⟨.hbm, 50, rfl⟩
abbrev main_v13_4 : Ref sig .tc := ⟨.hbm, 51, rfl⟩
abbrev main_v14 : Ref sig .tc := ⟨.hbm, 52, rfl⟩
abbrev main_cst_4 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v11_scv : Ref sig .scVector := ⟨.hbm, 45, rfl⟩
abbrev main_v12_scv : Ref sig .scVector := ⟨.hbm, 46, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg8_0 : Ref sig .tc := ⟨.vmem, 10, rfl⟩
abbrev cc1_stg9_0 : Ref sig .tc := ⟨.vmem, 11, rfl⟩
abbrev cc1_stg10_0 : Ref sig .tc := ⟨.vmem, 12, rfl⟩
abbrev cc1_stg11_0 : Ref sig .tc := ⟨.vmem, 13, rfl⟩
abbrev cc1_stg12_0 : Ref sig .tc := ⟨.vmem, 14, rfl⟩
abbrev cc1_stg13_0 : Ref sig .tc := ⟨.vmem, 15, rfl⟩
abbrev cc1_stg14_0 : Ref sig .tc := ⟨.vmem, 16, rfl⟩
abbrev cc1_stg15_0 : Ref sig .tc := ⟨.vmem, 17, rfl⟩
abbrev cc1_stg16_0 : Ref sig .tc := ⟨.vmem, 18, rfl⟩
abbrev cc1_stg17_0 : Ref sig .tc := ⟨.vmem, 19, rfl⟩
abbrev cc1_stg18_0 : Ref sig .tc := ⟨.vmem, 20, rfl⟩
abbrev cc1_stg19_0 : Ref sig .tc := ⟨.vmem, 21, rfl⟩
abbrev cc1_stg20_0 : Ref sig .tc := ⟨.vmem, 22, rfl⟩
abbrev cc1_stg21_0 : Ref sig .tc := ⟨.vmem, 23, rfl⟩
abbrev cc1_stg22_0 : Ref sig .tc := ⟨.vmem, 24, rfl⟩
abbrev cc1_stg23_0 : Ref sig .tc := ⟨.vmem, 25, rfl⟩
abbrev cc1_stg24_0 : Ref sig .tc := ⟨.vmem, 26, rfl⟩
abbrev cc1_stg25_0 : Ref sig .tc := ⟨.vmem, 27, rfl⟩
abbrev cc1_stg26_0 : Ref sig .tc := ⟨.vmem, 28, rfl⟩
abbrev cc1_stg27_0 : Ref sig .tc := ⟨.vmem, 29, rfl⟩
abbrev cc1_stg28_0 : Ref sig .tc := ⟨.vmem, 30, rfl⟩
abbrev cc1_stg29_0 : Ref sig .tc := ⟨.vmem, 31, rfl⟩
abbrev cc1_stg30_0 : Ref sig .tc := ⟨.vmem, 32, rfl⟩
abbrev cc1_stg31_0 : Ref sig .tc := ⟨.vmem, 33, rfl⟩
abbrev cc1_stg32_0 : Ref sig .tc := ⟨.vmem, 34, rfl⟩
abbrev cc1_stg33_0 : Ref sig .tc := ⟨.vmem, 35, rfl⟩
abbrev cc1_stg34_0 : Ref sig .tc := ⟨.vmem, 36, rfl⟩
abbrev cc1_stg34_1 : Ref sig .tc := ⟨.vmem, 37, rfl⟩
abbrev cc1_stg35_0 : Ref sig .tc := ⟨.vmem, 38, rfl⟩
abbrev cc1_stg35_1 : Ref sig .tc := ⟨.vmem, 39, rfl⟩
abbrev cc1_stg36_0 : Ref sig .tc := ⟨.vmem, 40, rfl⟩
abbrev cc1_stg36_1 : Ref sig .tc := ⟨.vmem, 41, rfl⟩
abbrev cc1_stg37_0 : Ref sig .tc := ⟨.vmem, 42, rfl⟩
abbrev cc1_stg37_1 : Ref sig .tc := ⟨.vmem, 43, rfl⟩
abbrev cc1_stg38_0 : Ref sig .tc := ⟨.vmem, 44, rfl⟩
abbrev cc1_stg38_1 : Ref sig .tc := ⟨.vmem, 45, rfl⟩
abbrev cc0_scratch0 : Ref sig .scVector := ⟨.vmem, 0, rfl⟩
abbrev cc0_scratch1 : Ref sig .scVector := ⟨.vmem, 1, rfl⟩
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem11_0 : DmaSem sig := 26
abbrev cc1_sem12_0 : DmaSem sig := 27
abbrev cc1_sem13_0 : DmaSem sig := 28
abbrev cc1_sem14_0 : DmaSem sig := 29
abbrev cc1_sem15_0 : DmaSem sig := 30
abbrev cc1_sem16_0 : DmaSem sig := 31
abbrev cc1_sem17_0 : DmaSem sig := 32
abbrev cc1_sem18_0 : DmaSem sig := 33
abbrev cc1_sem19_0 : DmaSem sig := 34
abbrev cc1_sem20_0 : DmaSem sig := 35
abbrev cc1_sem21_0 : DmaSem sig := 36
abbrev cc1_sem22_0 : DmaSem sig := 37
abbrev cc1_sem23_0 : DmaSem sig := 38
abbrev cc1_sem24_0 : DmaSem sig := 39
abbrev cc1_sem25_0 : DmaSem sig := 40
abbrev cc1_sem26_0 : DmaSem sig := 41
abbrev cc1_sem27_0 : DmaSem sig := 42
abbrev cc1_sem28_0 : DmaSem sig := 43
abbrev cc1_sem29_0 : DmaSem sig := 44
abbrev cc1_sem30_0 : DmaSem sig := 45
abbrev cc1_sem31_0 : DmaSem sig := 46
abbrev cc1_sem32_0 : DmaSem sig := 47
abbrev cc1_sem33_0 : DmaSem sig := 48
abbrev cc1_sem34_0 : DmaSem sig := 49
abbrev cc1_sem34_1 : DmaSem sig := 50
abbrev cc1_sem35_0 : DmaSem sig := 51
abbrev cc1_sem35_1 : DmaSem sig := 52
abbrev cc1_sem36_0 : DmaSem sig := 53
abbrev cc1_sem36_1 : DmaSem sig := 54
abbrev cc1_sem37_0 : DmaSem sig := 55
abbrev cc1_sem37_1 : DmaSem sig := 56
abbrev cc1_sem38_0 : DmaSem sig := 57
abbrev cc1_sem38_1 : DmaSem sig := 58
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 2 → Nat :=
  let c0_i32_2454 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
def k0_off3 (i : grid0.Coords) : Fin 2 → Nat :=
  let c1_i32_2456 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![1, v2.toNat]
def k0_off4 (i : grid0.Coords) : Fin 2 → Nat :=
  let c2_i32_2458 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![2, v2.toNat]
def k0_off5 (i : grid0.Coords) : Fin 2 → Nat :=
  let c3_i32_2460 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![3, v2.toNat]
def k0_off6 (i : grid0.Coords) : Fin 2 → Nat :=
  let c4_i32_2462 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![4, v2.toNat]
def k0_off7 (i : grid0.Coords) : Fin 2 → Nat :=
  let c5_i32_2464 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![5, v2.toNat]
def k0_off8 (i : grid0.Coords) : Fin 2 → Nat :=
  let c6_i32_2466 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![6, v2.toNat]
def k0_off9 (i : grid0.Coords) : Fin 2 → Nat :=
  let c7_i32_2468 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![7, v2.toNat]
def k0_off10 (i : grid0.Coords) : Fin 2 → Nat :=
  let c8_i32_2470 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![8, v2.toNat]
def k0_off11 (i : grid0.Coords) : Fin 2 → Nat :=
  let c9_i32_2472 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![9, v2.toNat]
def k0_off12 (i : grid0.Coords) : Fin 2 → Nat :=
  let c10_i32_2474 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![10, v2.toNat]
def k0_off13 (i : grid0.Coords) : Fin 2 → Nat :=
  let c11_i32_2476 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![11, v2.toNat]
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_20 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_21 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_22 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_23 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_24 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_25 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_26 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_27 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_28 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_29 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_30 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_31 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_32 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_33 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_34 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_35 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_36 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_37 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_38 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1x4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S12x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S5x12x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S5x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S48x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S4x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S4 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S4x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S128 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S5x128 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S5 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S2x128 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S2 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S144x256 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]

abbrev stage1_21 : Fin 1 → Memref sig .tc .vmem S256 .f32 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))
abbrev reads1_21 : Fin grid1.rank → Bool := ![false]

abbrev stage1_22 : Fin 1 → Memref sig .tc .vmem S512x256 .f32 := fun | 0 => Memref.whole cc1_stg22_0 | ⟨_ + 1, h⟩ => absurd h (Nat.not_lt.2 (Nat.le_add_left _ _))
abbrev sem1_22 : Fin 1 → DmaSem sig := fun | 0 => cc1_sem22_0 | ⟨_ + 1, h⟩ => absurd h (Nat.not_lt.2 (Nat.le_add_left _ _))
abbrev reads1_22 : Fin grid1.rank → Bool := ![false]

abbrev stage1_23 : Fin 1 → Memref sig .tc .vmem S512 .f32 := fun | 0 => Memref.whole cc1_stg23_0 | ⟨_ + 1, h⟩ => absurd h (Nat.not_lt.2 (Nat.le_add_left _ _))
abbrev sem1_23 : Fin 1 → DmaSem sig := fun | 0 => cc1_sem23_0 | ⟨_ + 1, h⟩ => absurd h (Nat.not_lt.2 (Nat.le_add_left _ _))
abbrev reads1_23 : Fin grid1.rank → Bool := ![false]

abbrev stage1_24 : Fin 1 → Memref sig .tc .vmem S32x512 .f32 := fun | 0 => Memref.whole cc1_stg24_0 | ⟨_ + 1, h⟩ => absurd h (Nat.not_lt.2 (Nat.le_add_left _ _))
abbrev sem1_24 : Fin 1 → DmaSem sig := fun | 0 => cc1_sem24_0 | ⟨_ + 1, h⟩ => absurd h (Nat.not_lt.2 (Nat.le_add_left _ _))
abbrev reads1_24 : Fin grid1.rank → Bool := ![false]

abbrev stage1_25 : Fin 1 → Memref sig .tc .vmem S32 .f32 := fun | 0 => Memref.whole cc1_stg25_0 | ⟨_ + 1, h⟩ => absurd h (Nat.not_lt.2 (Nat.le_add_left _ _))
abbrev sem1_25 : Fin 1 → DmaSem sig := fun | 0 => cc1_sem25_0 | ⟨_ + 1, h⟩ => absurd h (Nat.not_lt.2 (Nat.le_add_left _ _))
abbrev reads1_25 : Fin grid1.rank → Bool := ![false]

abbrev stage1_26 : Fin 1 → Memref sig .tc .vmem S5x12x32 .f32 := fun | 0 => Memref.whole cc1_stg26_0 | ⟨_ + 1, h⟩ => absurd h (Nat.not_lt.2 (Nat.le_add_left _ _))
abbrev sem1_26 : Fin 1 → DmaSem sig := fun | 0 => cc1_sem26_0 | ⟨_ + 1, h⟩ => absurd h (Nat.not_lt.2 (Nat.le_add_left _ _))
abbrev reads1_26 : Fin grid1.rank → Bool := ![false]

abbrev stage1_27 : Fin 1 → Memref sig .tc .vmem S5x12 .f32 := fun | 0 => Memref.whole cc1_stg27_0 | ⟨_ + 1, h⟩ => absurd h (Nat.not_lt.2 (Nat.le_add_left _ _))
abbrev sem1_27 : Fin 1 → DmaSem sig := fun | 0 => cc1_sem27_0 | ⟨_ + 1, h⟩ => absurd h (Nat.not_lt.2 (Nat.le_add_left _ _))
abbrev reads1_27 : Fin grid1.rank → Bool := ![false]

abbrev stage1_28 : Fin 1 → Memref sig .tc .vmem S5x16 .f32 := fun | 0 => Memref.whole cc1_stg28_0 | ⟨_ + 1, h⟩ => absurd h (Nat.not_lt.2 (Nat.le_add_left _ _))
abbrev sem1_28 : Fin 1 → DmaSem sig := fun | 0 => cc1_sem28_0 | ⟨_ + 1, h⟩ => absurd h (Nat.not_lt.2 (Nat.le_add_left _ _))
abbrev reads1_28 : Fin grid1.rank → Bool := ![false]

abbrev stage1_29 : Fin 1 → Memref sig .tc .vmem S4x1 .f32 := fun | 0 => Memref.whole cc1_stg29_0 | ⟨_ + 1, h⟩ => absurd h (Nat.not_lt.2 (Nat.le_add_left _ _))
abbrev sem1_29 : Fin 1 → DmaSem sig := fun | 0 => cc1_sem29_0 | ⟨_ + 1, h⟩ => absurd h (Nat.not_lt.2 (Nat.le_add_left _ _))
abbrev reads1_29 : Fin grid1.rank → Bool := ![false]

abbrev stage1_30 : Fin 1 → Memref sig .tc .vmem S4x1 .f32 := fun | 0 => Memref.whole cc1_stg30_0 | ⟨_ + 1, h⟩ => absurd h (Nat.not_lt.2 (Nat.le_add_left _ _))
abbrev sem1_30 : Fin 1 → DmaSem sig := fun | 0 => cc1_sem30_0 | ⟨_ + 1, h⟩ => absurd h (Nat.not_lt.2 (Nat.le_add_left _ _))
abbrev reads1_30 : Fin grid1.rank → Bool := ![false]

abbrev stage1_31 : Fin 1 → Memref sig .tc .vmem S4x1 .f32 := fun | 0 => Memref.whole cc1_stg31_0 | ⟨_ + 1, h⟩ => absurd h (Nat.not_lt.2 (Nat.le_add_left _ _))
abbrev sem1_31 : Fin 1 → DmaSem sig := fun | 0 => cc1_sem31_0 | ⟨_ + 1, h⟩ => absurd h (Nat.not_lt.2 (Nat.le_add_left _ _))
abbrev reads1_31 : Fin grid1.rank → Bool := ![false]

abbrev stage1_32 : Fin 1 → Memref sig .tc .vmem S4x1 .f32 := fun | 0 => Memref.whole cc1_stg32_0 | ⟨_ + 1, h⟩ => absurd h (Nat.not_lt.2 (Nat.le_add_left _ _))
abbrev sem1_32 : Fin 1 → DmaSem sig := fun | 0 => cc1_sem32_0 | ⟨_ + 1, h⟩ => absurd h (Nat.not_lt.2 (Nat.le_add_left _ _))
abbrev reads1_32 : Fin grid1.rank → Bool := ![false]

abbrev stage1_33 : Fin 1 → Memref sig .tc .vmem S4x1 .f32 := fun | 0 => Memref.whole cc1_stg33_0 | ⟨_ + 1, h⟩ => absurd h (Nat.not_lt.2 (Nat.le_add_left _ _))
abbrev sem1_33 : Fin 1 → DmaSem sig := fun | 0 => cc1_sem33_0 | ⟨_ + 1, h⟩ => absurd h (Nat.not_lt.2 (Nat.le_add_left _ _))
abbrev reads1_33 : Fin grid1.rank → Bool := ![false]

abbrev stage1_34 : Fin 2 → Memref sig .tc .vmem S12x4096 .f32 := fun | 0 => Memref.whole cc1_stg34_0 | 1 => Memref.whole cc1_stg34_1 | ⟨_ + 2, h⟩ => absurd h (Nat.not_lt.2 (Nat.le_add_left _ _))
abbrev sem1_34 : Fin 2 → DmaSem sig := fun | 0 => cc1_sem34_0 | 1 => cc1_sem34_1 | ⟨_ + 2, h⟩ => absurd h (Nat.not_lt.2 (Nat.le_add_left _ _))
abbrev reads1_34 : Fin grid1.rank → Bool := ![true]

abbrev stage1_35 : Fin 2 → Memref sig .tc .vmem S5x4096 .f32 := fun | 0 => Memref.whole cc1_stg35_0 | 1 => Memref.whole cc1_stg35_1 | ⟨_ + 2, h⟩ => absurd h (Nat.not_lt.2 (Nat.le_add_left _ _))
abbrev sem1_35 : Fin 2 → DmaSem sig := fun | 0 => cc1_sem35_0 | 1 => cc1_sem35_1 | ⟨_ + 2, h⟩ => absurd h (Nat.not_lt.2 (Nat.le_add_left _ _))
abbrev reads1_35 : Fin grid1.rank → Bool := ![true]

abbrev stage1_36 : Fin 2 → Memref sig .tc .vmem S2x4096 .f32 := fun | 0 => Memref.whole cc1_stg36_0 | 1 => Memref.whole cc1_stg36_1 | ⟨_ + 2, h⟩ => absurd h (Nat.not_lt.2 (Nat.le_add_left _ _))
abbrev sem1_36 : Fin 2 → DmaSem sig := fun | 0 => cc1_sem36_0 | 1 => cc1_sem36_1 | ⟨_ + 2, h⟩ => absurd h (Nat.not_lt.2 (Nat.le_add_left _ _))
abbrev reads1_36 : Fin grid1.rank → Bool := ![true]

abbrev stage1_37 : Fin 2 → Memref sig .tc .vmem S4096x128 .f32 := fun | 0 => Memref.whole cc1_stg37_0 | 1 => Memref.whole cc1_stg37_1 | ⟨_ + 2, h⟩ => absurd h (Nat.not_lt.2 (Nat.le_add_left _ _))
abbrev sem1_37 : Fin 2 → DmaSem sig := fun | 0 => cc1_sem37_0 | 1 => cc1_sem37_1 | ⟨_ + 2, h⟩ => absurd h (Nat.not_lt.2 (Nat.le_add_left _ _))
abbrev reads1_37 : Fin grid1.rank → Bool := ![true]

abbrev stage1_38 : Fin 2 → Memref sig .tc .vmem S1x4096 .i32 := fun | 0 => Memref.whole cc1_stg38_0 | 1 => Memref.whole cc1_stg38_1 | ⟨_ + 2, h⟩ => absurd h (Nat.not_lt.2 (Nat.le_add_left _ _))
abbrev sem1_38 : Fin 2 → DmaSem sig := fun | 0 => cc1_sem38_0 | 1 => cc1_sem38_1 | ⟨_ + 2, h⟩ => absurd h (Nat.not_lt.2 (Nat.le_add_left _ _))
abbrev reads1_38 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x12 : Shape := ⟨2, ![16384, 12]⟩
abbrev S16384 : Shape := ⟨1, ![16384]⟩
abbrev S5x16 : Shape := ⟨2, ![5, 16]⟩
abbrev S5x32x12 : Shape := ⟨3, ![5, 32, 12]⟩
abbrev S5x32 : Shape := ⟨2, ![5, 32]⟩
abbrev S512x48 : Shape := ⟨2, ![512, 48]⟩
abbrev S512 : Shape := ⟨1, ![512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S128x128 : Shape := ⟨2, ![128, 128]⟩
abbrev S4x128 : Shape := ⟨2, ![4, 128]⟩
abbrev S4 : Shape := ⟨1, ![4]⟩
abbrev S128x4 : Shape := ⟨2, ![128, 4]⟩
abbrev S256x144 : Shape := ⟨2, ![256, 144]⟩
abbrev S512x256 : Shape := ⟨2, ![512, 256]⟩
abbrev S32x512 : Shape := ⟨2, ![32, 512]⟩
abbrev S32 : Shape := ⟨1, ![32]⟩
abbrev S5x128 : Shape := ⟨2, ![5, 128]⟩
abbrev S5 : Shape := ⟨1, ![5]⟩
abbrev S2x128 : Shape := ⟨2, ![2, 128]⟩
abbrev S2 : Shape := ⟨1, ![2]⟩
abbrev S5x12x32 : Shape := ⟨3, ![5, 12, 32]⟩
abbrev S5x12 : Shape := ⟨2, ![5, 12]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x16 : Shape := ⟨2, ![16384, 16]⟩
abbrev S16384x32x12 : Shape := ⟨3, ![16384, 32, 12]⟩
abbrev S16384x32 : Shape := ⟨2, ![16384, 32]⟩
abbrev S16384x48 : Shape := ⟨2, ![16384, 48]⟩
abbrev S48x512 : Shape := ⟨2, ![48, 512]⟩
abbrev S16384x512 : Shape := ⟨2, ![16384, 512]⟩
abbrev S1x512 : Shape := ⟨2, ![1, 512]⟩
abbrev S16384x256 : Shape := ⟨2, ![16384, 256]⟩
abbrev S1x256 : Shape := ⟨2, ![1, 256]⟩
abbrev S256x128 : Shape := ⟨2, ![256, 128]⟩
abbrev S16384x128 : Shape := ⟨2, ![16384, 128]⟩
abbrev S1x128 : Shape := ⟨2, ![1, 128]⟩
abbrev S16384x4 : Shape := ⟨2, ![16384, 4]⟩
abbrev S1x4 : Shape := ⟨2, ![1, 4]⟩
abbrev S128x5 : Shape := ⟨2, ![128, 5]⟩
abbrev S16384x5 : Shape := ⟨2, ![16384, 5]⟩
abbrev S1x5 : Shape := ⟨2, ![1, 5]⟩
abbrev S128x2 : Shape := ⟨2, ![128, 2]⟩
abbrev S16384x2 : Shape := ⟨2, ![16384, 2]⟩
abbrev S1x2 : Shape := ⟨2, ![1, 2]⟩
abbrev S16384x144 : Shape := ⟨2, ![16384, 144]⟩
abbrev S144x256 : Shape := ⟨2, ![144, 256]⟩
abbrev S512x32 : Shape := ⟨2, ![512, 32]⟩
abbrev S1x32 : Shape := ⟨2, ![1, 32]⟩
abbrev S16384x12x32 : Shape := ⟨3, ![16384, 12, 32]⟩
abbrev S12 : Shape := ⟨1, ![12]⟩
abbrev S1x12 : Shape := ⟨2, ![1, 12]⟩

abbrev nBuf : Space → Nat
  | .hbm => 282
  | .vmem => 0
  | .smem => 0
  | _ => 0

abbrev hbmTy0_0 (i : Nat) : BufTy := match i % 128 with
  | 0 => ⟨S16384x12, .f32⟩
  | 1 => ⟨S16384, .i32⟩
  | 2 => ⟨S5x16, .f32⟩
  | 3 => ⟨S5x32x12, .f32⟩
  | 4 => ⟨S5x32, .f32⟩
  | 5 => ⟨S512x48, .f32⟩
  | 6 => ⟨S512, .f32⟩
  | 7 => ⟨S256x512, .f32⟩
  | 8 => ⟨S256, .f32⟩
  | 9 => ⟨S128x256, .f32⟩
  | 10 => ⟨S128, .f32⟩
  | 11 => ⟨S128x128, .f32⟩
  | 12 => ⟨S128, .f32⟩
  | 13 => ⟨S4x128, .f32⟩
  | 14 => ⟨S4, .f32⟩
  | 15 => ⟨S128x4, .f32⟩
  | 16 => ⟨S128, .f32⟩
  | 17 => ⟨S256x144, .f32⟩
  | 18 => ⟨S256, .f32⟩
  | 19 => ⟨S512x256, .f32⟩
  | 20 => ⟨S512, .f32⟩
  | 21 => ⟨S32x512, .f32⟩
  | 22 => ⟨S32, .f32⟩
  | 23 => ⟨S5x128, .f32⟩
  | 24 => ⟨S5, .f32⟩
  | 25 => ⟨S2x128, .f32⟩
  | 26 => ⟨S2, .f32⟩
  | 27 => ⟨S5x12x32, .f32⟩
  | 28 => ⟨S5x12, .f32⟩
  | 29 => ⟨S4, .f32⟩
  | 30 => ⟨S4, .f32⟩
  | 31 => ⟨S4, .f32⟩
  | 32 => ⟨S4, .f32⟩
  | 33 => ⟨S4, .f32⟩
  | 34 => ⟨S5, .i32⟩
  | 35 => ⟨S_, .i32⟩
  | 36 => ⟨S16384, .i32⟩
  | 37 => ⟨S16384, .i1⟩
  | 38 => ⟨S_, .i32⟩
  | 39 => ⟨S16384, .i32⟩
  | 40 => ⟨S16384, .i32⟩
  | 41 => ⟨S16384, .i32⟩
  | 42 => ⟨S16384x1, .i32⟩
  | 43 => ⟨S1, .i32⟩
  | 44 => ⟨S_, .i32⟩
  | 45 => ⟨S16384x1, .i32⟩
  | 46 => ⟨S16384x1, .i1⟩
  | 47 => ⟨S1x1, .i32⟩
  | 48 => ⟨S16384x1, .i32⟩
  | 49 => ⟨S16384x1, .i1⟩
  | 50 => ⟨S16384x1, .i1⟩
  | 51 => ⟨S_, .i1⟩
  | 52 => ⟨S16384, .i1⟩
  | 53 => ⟨S16384x16, .f32⟩
  | 54 => ⟨S16384x16, .i1⟩
  | 55 => ⟨S_, .f32⟩
  | 56 => ⟨S16384x16, .f32⟩
  | 57 => ⟨S16384x16, .f32⟩
  | 58 => ⟨S_, .i32⟩
  | 59 => ⟨S16384, .i32⟩
  | 60 => ⟨S16384, .i1⟩
  | 61 => ⟨S_, .i32⟩
  | 62 => ⟨S16384, .i32⟩
  | 63 => ⟨S16384, .i32⟩
  | 64 => ⟨S16384, .i32⟩
  | 65 => ⟨S16384x1, .i32⟩
  | 66 => ⟨S1, .i32⟩
  | 67 => ⟨S_, .i32⟩
  | 68 => ⟨S16384x1, .i32⟩
  | 69 => ⟨S16384x1, .i1⟩
  | 70 => ⟨S1x1, .i32⟩
  | 71 => ⟨S16384x1, .i32⟩
  | 72 => ⟨S16384x1, .i1⟩
  | 73 => ⟨S16384x1, .i1⟩
  | 74 => ⟨S_, .i1⟩
  | 75 => ⟨S16384, .i1⟩
  | 76 => ⟨S16384x32x12, .f32⟩
  | 77 => ⟨S16384x32x12, .i1⟩
  | 78 => ⟨S_, .f32⟩
  | 79 => ⟨S16384x32x12, .f32⟩
  | 80 => ⟨S16384x32x12, .f32⟩
  | 81 => ⟨S_, .i32⟩
  | 82 => ⟨S16384, .i32⟩
  | 83 => ⟨S16384, .i1⟩
  | 84 => ⟨S_, .i32⟩
  | 85 => ⟨S16384, .i32⟩
  | 86 => ⟨S16384, .i32⟩
  | 87 => ⟨S16384, .i32⟩
  | 88 => ⟨S16384x1, .i32⟩
  | 89 => ⟨S1, .i32⟩
  | 90 => ⟨S_, .i32⟩
  | 91 => ⟨S16384x1, .i32⟩
  | 92 => ⟨S16384x1, .i1⟩
  | 93 => ⟨S1x1, .i32⟩
  | 94 => ⟨S16384x1, .i32⟩
  | 95 => ⟨S16384x1, .i1⟩
  | 96 => ⟨S16384x1, .i1⟩
  | 97 => ⟨S_, .i1⟩
  | 98 => ⟨S16384, .i1⟩
  | 99 => ⟨S16384x32, .f32⟩
  | 100 => ⟨S16384x32, .i1⟩
  | 101 => ⟨S_, .f32⟩
  | 102 => ⟨S16384x32, .f32⟩
  | 103 => ⟨S16384x32, .f32⟩
  | 104 => ⟨S16384x32, .f32⟩
  | 105 => ⟨S16384x32, .f32⟩
  | 106 => ⟨S16384x48, .f32⟩
  | 107 => ⟨S48x512, .f32⟩
  | 108 => ⟨S16384x512, .f32⟩
  | 109 => ⟨S1x512, .f32⟩
  | 110 => ⟨S16384x512, .f32⟩
  | 111 => ⟨S16384x512, .f32⟩
  | 112 => ⟨S_, .f32⟩
  | 113 => ⟨S16384x512, .f32⟩
  | 114 => ⟨S16384x512, .f32⟩
  | 115 => ⟨S512x256, .f32⟩
  | 116 => ⟨S16384x256, .f32⟩
  | 117 => ⟨S1x256, .f32⟩
  | 118 => ⟨S16384x256, .f32⟩
  | 119 => ⟨S16384x256, .f32⟩
  | 120 => ⟨S_, .f32⟩
  | 121 => ⟨S16384x256, .f32⟩
  | 122 => ⟨S16384x256, .f32⟩
  | 123 => ⟨S256x128, .f32⟩
  | 124 => ⟨S16384x128, .f32⟩
  | 125 => ⟨S1x128, .f32⟩
  | 126 => ⟨S16384x128, .f32⟩
  | 127 => ⟨S16384x128, .f32⟩
  | _ => ⟨S16384x12, .f32⟩

abbrev hbmTy0_1 (i : Nat) : BufTy := match i % 128 with
  | 0 => ⟨S_, .f32⟩
  | 1 => ⟨S16384x128, .f32⟩
  | 2 => ⟨S16384x128, .f32⟩
  | 3 => ⟨S128x128, .f32⟩
  | 4 => ⟨S16384x128, .f32⟩
  | 5 => ⟨S1x128, .f32⟩
  | 6 => ⟨S16384x128, .f32⟩
  | 7 => ⟨S16384x128, .f32⟩
  | 8 => ⟨S128x4, .f32⟩
  | 9 => ⟨S16384x4, .f32⟩
  | 10 => ⟨S1x4, .f32⟩
  | 11 => ⟨S16384x4, .f32⟩
  | 12 => ⟨S16384x4, .f32⟩
  | 13 => ⟨S1x4, .f32⟩
  | 14 => ⟨S16384x4, .f32⟩
  | 15 => ⟨S16384x4, .f32⟩
  | 16 => ⟨S16384x4, .f32⟩
  | 17 => ⟨S1x4, .f32⟩
  | 18 => ⟨S16384x4, .f32⟩
  | 19 => ⟨S16384x4, .f32⟩
  | 20 => ⟨S1x4, .f32⟩
  | 21 => ⟨S16384x4, .f32⟩
  | 22 => ⟨S16384x4, .f32⟩
  | 23 => ⟨S16384x4, .f32⟩
  | 24 => ⟨S16384x4, .f32⟩
  | 25 => ⟨S16384x4, .f32⟩
  | 26 => ⟨S1x4, .f32⟩
  | 27 => ⟨S16384x4, .f32⟩
  | 28 => ⟨S16384x4, .f32⟩
  | 29 => ⟨S1x4, .f32⟩
  | 30 => ⟨S16384x4, .f32⟩
  | 31 => ⟨S16384x4, .f32⟩
  | 32 => ⟨S1x4, .f32⟩
  | 33 => ⟨S16384x4, .f32⟩
  | 34 => ⟨S16384x4, .f32⟩
  | 35 => ⟨S1x4, .f32⟩
  | 36 => ⟨S16384x4, .f32⟩
  | 37 => ⟨S16384x4, .f32⟩
  | 38 => ⟨S_, .f32⟩
  | 39 => ⟨S16384, .f32⟩
  | 40 => ⟨S16384, .i32⟩
  | 41 => ⟨S4x128, .f32⟩
  | 42 => ⟨S16384x128, .f32⟩
  | 43 => ⟨S1x128, .f32⟩
  | 44 => ⟨S16384x128, .f32⟩
  | 45 => ⟨S16384x128, .f32⟩
  | 46 => ⟨S128x5, .f32⟩
  | 47 => ⟨S16384x5, .f32⟩
  | 48 => ⟨S1x5, .f32⟩
  | 49 => ⟨S16384x5, .f32⟩
  | 50 => ⟨S16384x5, .f32⟩
  | 51 => ⟨S128x2, .f32⟩
  | 52 => ⟨S16384x2, .f32⟩
  | 53 => ⟨S1x2, .f32⟩
  | 54 => ⟨S16384x2, .f32⟩
  | 55 => ⟨S16384x2, .f32⟩
  | 56 => ⟨S16384x144, .f32⟩
  | 57 => ⟨S144x256, .f32⟩
  | 58 => ⟨S16384x256, .f32⟩
  | 59 => ⟨S1x256, .f32⟩
  | 60 => ⟨S16384x256, .f32⟩
  | 61 => ⟨S16384x256, .f32⟩
  | 62 => ⟨S_, .f32⟩
  | 63 => ⟨S16384x256, .f32⟩
  | 64 => ⟨S16384x256, .f32⟩
  | 65 => ⟨S256x512, .f32⟩
  | 66 => ⟨S16384x512, .f32⟩
  | 67 => ⟨S1x512, .f32⟩
  | 68 => ⟨S16384x512, .f32⟩
  | 69 => ⟨S16384x512, .f32⟩
  | 70 => ⟨S_, .f32⟩
  | 71 => ⟨S16384x512, .f32⟩
  | 72 => ⟨S16384x512, .f32⟩
  | 73 => ⟨S512x32, .f32⟩
  | 74 => ⟨S16384x32, .f32⟩
  | 75 => ⟨S1x32, .f32⟩
  | 76 => ⟨S16384x32, .f32⟩
  | 77 => ⟨S16384x32, .f32⟩
  | 78 => ⟨S_, .i32⟩
  | 79 => ⟨S16384, .i32⟩
  | 80 => ⟨S16384, .i1⟩
  | 81 => ⟨S_, .i32⟩
  | 82 => ⟨S16384, .i32⟩
  | 83 => ⟨S16384, .i32⟩
  | 84 => ⟨S16384, .i32⟩
  | 85 => ⟨S16384x1, .i32⟩
  | 86 => ⟨S1, .i32⟩
  | 87 => ⟨S_, .i32⟩
  | 88 => ⟨S16384x1, .i32⟩
  | 89 => ⟨S16384x1, .i1⟩
  | 90 => ⟨S1x1, .i32⟩
  | 91 => ⟨S16384x1, .i32⟩
  | 92 => ⟨S16384x1, .i1⟩
  | 93 => ⟨S16384x1, .i1⟩
  | 94 => ⟨S_, .i1⟩
  | 95 => ⟨S16384, .i1⟩
  | 96 => ⟨S16384x12x32, .f32⟩
  | 97 => ⟨S16384x12x32, .i1⟩
  | 98 => ⟨S_, .f32⟩
  | 99 => ⟨S16384x12x32, .f32⟩
  | 100 => ⟨S16384x12x32, .f32⟩
  | 101 => ⟨S_, .i32⟩
  | 102 => ⟨S16384, .i32⟩
  | 103 => ⟨S16384, .i1⟩
  | 104 => ⟨S_, .i32⟩
  | 105 => ⟨S16384, .i32⟩
  | 106 => ⟨S16384, .i32⟩
  | 107 => ⟨S16384, .i32⟩
  | 108 => ⟨S16384x1, .i32⟩
  | 109 => ⟨S1, .i32⟩
  | 110 => ⟨S_, .i32⟩
  | 111 => ⟨S16384x1, .i32⟩
  | 112 => ⟨S16384x1, .i1⟩
  | 113 => ⟨S1x1, .i32⟩
  | 114 => ⟨S16384x1, .i32⟩
  | 115 => ⟨S16384x1, .i1⟩
  | 116 => ⟨S16384x1, .i1⟩
  | 117 => ⟨S_, .i1⟩
  | 118 => ⟨S16384, .i1⟩
  | 119 => ⟨S16384x12, .f32⟩
  | 120 => ⟨S16384x12, .i1⟩
  | 121 => ⟨S_, .f32⟩
  | 122 => ⟨S16384x12, .f32⟩
  | 123 => ⟨S16384x12, .f32⟩
  | 124 => ⟨S16384x12, .f32⟩
  | 125 => ⟨S16384x12, .f32⟩
  | 126 => ⟨S12, .i32⟩
  | 127 => ⟨S1x12, .i32⟩
  | _ => ⟨S16384x12, .f32⟩

abbrev hbmTy0_2 (i : Nat) : BufTy := match i % 128 with
  | 0 => ⟨S_, .i32⟩
  | 1 => ⟨S16384, .i32⟩
  | 2 => ⟨S16384, .i1⟩
  | 3 => ⟨S_, .i32⟩
  | 4 => ⟨S16384, .i32⟩
  | 5 => ⟨S16384, .i32⟩
  | 6 => ⟨S16384, .i32⟩
  | 7 => ⟨S16384x1, .i32⟩
  | 8 => ⟨S1, .i32⟩
  | 9 => ⟨S_, .i32⟩
  | 10 => ⟨S16384x1, .i32⟩
  | 11 => ⟨S16384x1, .i1⟩
  | 12 => ⟨S1x1, .i32⟩
  | 13 => ⟨S16384x1, .i32⟩
  | 14 => ⟨S16384x1, .i1⟩
  | 15 => ⟨S16384x1, .i1⟩
  | 16 => ⟨S_, .i1⟩
  | 17 => ⟨S16384, .i1⟩
  | 18 => ⟨S16384, .i32⟩
  | 19 => ⟨S_, .i32⟩
  | 20 => ⟨S16384, .i32⟩
  | 21 => ⟨S16384, .i32⟩
  | 22 => ⟨S16384x1, .i32⟩
  | 23 => ⟨S16384x12, .i32⟩
  | 24 => ⟨S16384x12, .i32⟩
  | 25 => ⟨S16384x12, .i1⟩
  | _ => ⟨S16384x12, .f32⟩

abbrev hbmTy (i : Nat) : BufTy := match i / 128 with
  | 0 => hbmTy0_0 i
  | 1 => hbmTy0_1 i
  | 2 => hbmTy0_2 i
  | _ => ⟨S16384x12, .f32⟩

abbrev bufTy : (tb : Table) → Fin (tcTables nBuf tb) → BufTy
  | .hbm, ⟨i, _⟩ => hbmTy i
  | _, _ => ⟨S16384x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_cst : Ref sig .tc := ⟨.hbm, 29, rfl⟩
abbrev main_cst_0 : Ref sig .tc := ⟨.hbm, 30, rfl⟩
abbrev main_cst_1 : Ref sig .tc := ⟨.hbm, 31, rfl⟩
abbrev main_cst_2 : Ref sig .tc := ⟨.hbm, 32, rfl⟩
abbrev main_cst_3 : Ref sig .tc := ⟨.hbm, 33, rfl⟩
abbrev main_c : Ref sig .tc := ⟨.hbm, 34, rfl⟩
abbrev main_call0_c : Ref sig .tc := ⟨.hbm, 35, rfl⟩
abbrev main_call0_v0 : Ref sig .tc := ⟨.hbm, 36, rfl⟩
abbrev main_call0_v1 : Ref sig .tc := ⟨.hbm, 37, rfl⟩
abbrev main_call0_c_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_c_1 : Ref sig .tc := ⟨.hbm, 43, rfl⟩
abbrev main_call0_c_2 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_3 : Ref sig .tc := ⟨.hbm, 51, rfl⟩
abbrev main_call0_v12 : Ref sig .tc := ⟨.hbm, 52, rfl⟩
abbrev main_call0_v13 : Ref sig .tc := ⟨.hbm, 53, rfl⟩
abbrev main_call0_v14 : Ref sig .tc := ⟨.hbm, 54, rfl⟩
abbrev main_call0_cst : Ref sig .tc := ⟨.hbm, 55, rfl⟩
abbrev main_call0_v15 : Ref sig .tc := ⟨.hbm, 56, rfl⟩
abbrev main_v0 : Ref sig .tc := ⟨.hbm, 57, rfl⟩
abbrev main_call1_c : Ref sig .tc := ⟨.hbm, 58, rfl⟩
abbrev main_call1_v0 : Ref sig .tc := ⟨.hbm, 59, rfl⟩
abbrev main_call1_v1 : Ref sig .tc := ⟨.hbm, 60, rfl⟩
abbrev main_call1_c_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_c_1 : Ref sig .tc := ⟨.hbm, 66, rfl⟩
abbrev main_call1_c_2 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_c_3 : Ref sig .tc := ⟨.hbm, 74, rfl⟩
abbrev main_call1_v12 : Ref sig .tc := ⟨.hbm, 75, rfl⟩
abbrev main_call1_v13 : Ref sig .tc := ⟨.hbm, 76, rfl⟩
abbrev main_call1_v14 : Ref sig .tc := ⟨.hbm, 77, rfl⟩
abbrev main_call1_cst : Ref sig .tc := ⟨.hbm, 78, rfl⟩
abbrev main_call1_v15 : Ref sig .tc := ⟨.hbm, 79, rfl⟩
abbrev main_v1 : Ref sig .tc := ⟨.hbm, 80, rfl⟩
abbrev main_call2_c : Ref sig .tc := ⟨.hbm, 81, rfl⟩
abbrev main_call2_v0 : Ref sig .tc := ⟨.hbm, 82, rfl⟩
abbrev main_call2_v1 : Ref sig .tc := ⟨.hbm, 83, rfl⟩
abbrev main_call2_c_0 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_v5 : Ref sig .tc := ⟨.hbm, 88, rfl⟩
abbrev main_call2_c_1 : Ref sig .tc := ⟨.hbm, 89, rfl⟩
abbrev main_call2_c_2 : Ref sig .tc := ⟨.hbm, 90, rfl⟩
abbrev main_call2_v6 : Ref sig .tc := ⟨.hbm, 91, rfl⟩
abbrev main_call2_v7 : Ref sig .tc := ⟨.hbm, 92, rfl⟩
abbrev main_call2_v8 : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_call2_c_3 : Ref sig .tc := ⟨.hbm, 97, rfl⟩
abbrev main_call2_v12 : Ref sig .tc := ⟨.hbm, 98, rfl⟩
abbrev main_call2_v13 : Ref sig .tc := ⟨.hbm, 99, rfl⟩
abbrev main_call2_v14 : Ref sig .tc := ⟨.hbm, 100, rfl⟩
abbrev main_call2_cst : Ref sig .tc := ⟨.hbm, 101, rfl⟩
abbrev main_call2_v15 : Ref sig .tc := ⟨.hbm, 102, rfl⟩
abbrev main_v2 : Ref sig .tc := ⟨.hbm, 103, rfl⟩
abbrev main_v3 : Ref sig .tc := ⟨.hbm, 104, rfl⟩
abbrev main_v4 : Ref sig .tc := ⟨.hbm, 105, rfl⟩
abbrev main_v5 : Ref sig .tc := ⟨.hbm, 106, rfl⟩
abbrev main_v6 : Ref sig .tc := ⟨.hbm, 107, rfl⟩
abbrev main_v7 : Ref sig .tc := ⟨.hbm, 108, rfl⟩
abbrev main_v8 : Ref sig .tc := ⟨.hbm, 109, rfl⟩
abbrev main_v9 : Ref sig .tc := ⟨.hbm, 110, rfl⟩
abbrev main_v10 : Ref sig .tc := ⟨.hbm, 111, rfl⟩
abbrev main_cst_4 : Ref sig .tc := ⟨.hbm, 112, rfl⟩
abbrev main_v11 : Ref sig .tc := ⟨.hbm, 113, rfl⟩
abbrev main_v12 : Ref sig .tc := ⟨.hbm, 114, rfl⟩
abbrev main_v13 : Ref sig .tc := ⟨.hbm, 115, rfl⟩
abbrev main_v14 : Ref sig .tc := ⟨.hbm, 116, rfl⟩
abbrev main_v15 : Ref sig .tc := ⟨.hbm, 117, rfl⟩
abbrev main_v16 : Ref sig .tc := ⟨.hbm, 118, rfl⟩
abbrev main_v17 : Ref sig .tc := ⟨.hbm, 119, rfl⟩
abbrev main_cst_5 : Ref sig .tc := ⟨.hbm, 120, rfl⟩
abbrev main_v18 : Ref sig .tc := ⟨.hbm, 121, rfl⟩
abbrev main_v19 : Ref sig .tc := ⟨.hbm, 122, rfl⟩
abbrev main_v20 : Ref sig .tc := ⟨.hbm, 123, rfl⟩
abbrev main_v21 : Ref sig .tc := ⟨.hbm, 124, rfl⟩
abbrev main_v22 : Ref sig .tc := ⟨.hbm, 125, rfl⟩
abbrev main_v23 : Ref sig .tc := ⟨.hbm, 126, rfl⟩
abbrev main_v24 : Ref sig .tc := ⟨.hbm, 127, rfl⟩
abbrev main_cst_6 : Ref sig .tc := ⟨.hbm, 128, rfl⟩
abbrev main_v25 : Ref sig .tc := ⟨.hbm, 129, rfl⟩
abbrev main_v26 : Ref sig .tc := ⟨.hbm, 130, rfl⟩
abbrev main_v27 : Ref sig .tc := ⟨.hbm, 131, rfl⟩
abbrev main_v28 : Ref sig .tc := ⟨.hbm, 132, rfl⟩
abbrev main_v29 : Ref sig .tc := ⟨.hbm, 133, rfl⟩
abbrev main_v30 : Ref sig .tc := ⟨.hbm, 134, rfl⟩
abbrev main_v31 : Ref sig .tc := ⟨.hbm, 135, rfl⟩
abbrev main_v32 : Ref sig .tc := ⟨.hbm, 136, rfl⟩
abbrev main_v33 : Ref sig .tc := ⟨.hbm, 137, rfl⟩
abbrev main_v34 : Ref sig .tc := ⟨.hbm, 138, rfl⟩
abbrev main_v35 : Ref sig .tc := ⟨.hbm, 139, rfl⟩
abbrev main_v36 : Ref sig .tc := ⟨.hbm, 140, rfl⟩
abbrev main_v37 : Ref sig .tc := ⟨.hbm, 141, rfl⟩
abbrev main_v38 : Ref sig .tc := ⟨.hbm, 142, rfl⟩
abbrev main_v39 : Ref sig .tc := ⟨.hbm, 143, rfl⟩
abbrev main_v40 : Ref sig .tc := ⟨.hbm, 144, rfl⟩
abbrev main_v41 : Ref sig .tc := ⟨.hbm, 145, rfl⟩
abbrev main_v42 : Ref sig .tc := ⟨.hbm, 146, rfl⟩
abbrev main_v43 : Ref sig .tc := ⟨.hbm, 147, rfl⟩
abbrev main_v44 : Ref sig .tc := ⟨.hbm, 148, rfl⟩
abbrev main_v45 : Ref sig .tc := ⟨.hbm, 149, rfl⟩
abbrev main_v46 : Ref sig .tc := ⟨.hbm, 150, rfl⟩
abbrev main_v47 : Ref sig .tc := ⟨.hbm, 151, rfl⟩
abbrev main_v48 : Ref sig .tc := ⟨.hbm, 152, rfl⟩
abbrev main_v49 : Ref sig .tc := ⟨.hbm, 153, rfl⟩
abbrev main_v50 : Ref sig .tc := ⟨.hbm, 154, rfl⟩
abbrev main_v51 : Ref sig .tc := ⟨.hbm, 155, rfl⟩
abbrev main_v52 : Ref sig .tc := ⟨.hbm, 156, rfl⟩
abbrev main_v53 : Ref sig .tc := ⟨.hbm, 157, rfl⟩
abbrev main_v54 : Ref sig .tc := ⟨.hbm, 158, rfl⟩
abbrev main_v55 : Ref sig .tc := ⟨.hbm, 159, rfl⟩
abbrev main_v56 : Ref sig .tc := ⟨.hbm, 160, rfl⟩
abbrev main_v57 : Ref sig .tc := ⟨.hbm, 161, rfl⟩
abbrev main_v58 : Ref sig .tc := ⟨.hbm, 162, rfl⟩
abbrev main_v59 : Ref sig .tc := ⟨.hbm, 163, rfl⟩
abbrev main_v60 : Ref sig .tc := ⟨.hbm, 164, rfl⟩
abbrev main_v61 : Ref sig .tc := ⟨.hbm, 165, rfl⟩
abbrev main_cst_7 : Ref sig .tc := ⟨.hbm, 166, rfl⟩
abbrev main_v62 : Ref sig .tc := ⟨.hbm, 167, rfl⟩
abbrev main_v63 : Ref sig .tc := ⟨.hbm, 168, rfl⟩
abbrev main_v64 : Ref sig .tc := ⟨.hbm, 169, rfl⟩
abbrev main_v65 : Ref sig .tc := ⟨.hbm, 170, rfl⟩
abbrev main_v66 : Ref sig .tc := ⟨.hbm, 171, rfl⟩
abbrev main_v67 : Ref sig .tc := ⟨.hbm, 172, rfl⟩
abbrev main_v68 : Ref sig .tc := ⟨.hbm, 173, rfl⟩
abbrev main_v69 : Ref sig .tc := ⟨.hbm, 174, rfl⟩
abbrev main_v70 : Ref sig .tc := ⟨.hbm, 175, rfl⟩
abbrev main_v71 : Ref sig .tc := ⟨.hbm, 176, rfl⟩
abbrev main_v72 : Ref sig .tc := ⟨.hbm, 177, rfl⟩
abbrev main_v73 : Ref sig .tc := ⟨.hbm, 178, rfl⟩
abbrev main_v74 : Ref sig .tc := ⟨.hbm, 179, rfl⟩
abbrev main_v75 : Ref sig .tc := ⟨.hbm, 180, rfl⟩
abbrev main_v76 : Ref sig .tc := ⟨.hbm, 181, rfl⟩
abbrev main_v77 : Ref sig .tc := ⟨.hbm, 182, rfl⟩
abbrev main_v78 : Ref sig .tc := ⟨.hbm, 183, rfl⟩
abbrev main_v79 : Ref sig .tc := ⟨.hbm, 184, rfl⟩
abbrev main_v80 : Ref sig .tc := ⟨.hbm, 185, rfl⟩
abbrev main_v81 : Ref sig .tc := ⟨.hbm, 186, rfl⟩
abbrev main_v82 : Ref sig .tc := ⟨.hbm, 187, rfl⟩
abbrev main_v83 : Ref sig .tc := ⟨.hbm, 188, rfl⟩
abbrev main_v84 : Ref sig .tc := ⟨.hbm, 189, rfl⟩
abbrev main_cst_8 : Ref sig .tc := ⟨.hbm, 190, rfl⟩
abbrev main_v85 : Ref sig .tc := ⟨.hbm, 191, rfl⟩
abbrev main_v86 : Ref sig .tc := ⟨.hbm, 192, rfl⟩
abbrev main_v87 : Ref sig .tc := ⟨.hbm, 193, rfl⟩
abbrev main_v88 : Ref sig .tc := ⟨.hbm, 194, rfl⟩
abbrev main_v89 : Ref sig .tc := ⟨.hbm, 195, rfl⟩
abbrev main_v90 : Ref sig .tc := ⟨.hbm, 196, rfl⟩
abbrev main_v91 : Ref sig .tc := ⟨.hbm, 197, rfl⟩
abbrev main_cst_9 : Ref sig .tc := ⟨.hbm, 198, rfl⟩
abbrev main_v92 : Ref sig .tc := ⟨.hbm, 199, rfl⟩
abbrev main_v93 : Ref sig .tc := ⟨.hbm, 200, rfl⟩
abbrev main_v94 : Ref sig .tc := ⟨.hbm, 201, rfl⟩
abbrev main_v95 : Ref sig .tc := ⟨.hbm, 202, rfl⟩
abbrev main_v96 : Ref sig .tc := ⟨.hbm, 203, rfl⟩
abbrev main_v97 : Ref sig .tc := ⟨.hbm, 204, rfl⟩
abbrev main_v98 : Ref sig .tc := ⟨.hbm, 205, rfl⟩
abbrev main_call4_c : Ref sig .tc := ⟨.hbm, 206, rfl⟩
abbrev main_call4_v0 : Ref sig .tc := ⟨.hbm, 207, rfl⟩
abbrev main_call4_v1 : Ref sig .tc := ⟨.hbm, 208, rfl⟩
abbrev main_call4_c_0 : Ref sig .tc := ⟨.hbm, 209, rfl⟩
abbrev main_call4_v2 : Ref sig .tc := ⟨.hbm, 210, rfl⟩
abbrev main_call4_v3 : Ref sig .tc := ⟨.hbm, 211, rfl⟩
abbrev main_call4_v4 : Ref sig .tc := ⟨.hbm, 212, rfl⟩
abbrev main_call4_v5 : Ref sig .tc := ⟨.hbm, 213, rfl⟩
abbrev main_call4_c_1 : Ref sig .tc := ⟨.hbm, 214, rfl⟩
abbrev main_call4_c_2 : Ref sig .tc := ⟨.hbm, 215, rfl⟩
abbrev main_call4_v6 : Ref sig .tc := ⟨.hbm, 216, rfl⟩
abbrev main_call4_v7 : Ref sig .tc := ⟨.hbm, 217, rfl⟩
abbrev main_call4_v8 : Ref sig .tc := ⟨.hbm, 218, rfl⟩
abbrev main_call4_v9 : Ref sig .tc := ⟨.hbm, 219, rfl⟩
abbrev main_call4_v10 : Ref sig .tc := ⟨.hbm, 220, rfl⟩
abbrev main_call4_v11 : Ref sig .tc := ⟨.hbm, 221, rfl⟩
abbrev main_call4_c_3 : Ref sig .tc := ⟨.hbm, 222, rfl⟩
abbrev main_call4_v12 : Ref sig .tc := ⟨.hbm, 223, rfl⟩
abbrev main_call4_v13 : Ref sig .tc := ⟨.hbm, 224, rfl⟩
abbrev main_call4_v14 : Ref sig .tc := ⟨.hbm, 225, rfl⟩
abbrev main_call4_cst : Ref sig .tc := ⟨.hbm, 226, rfl⟩
abbrev main_call4_v15 : Ref sig .tc := ⟨.hbm, 227, rfl⟩
abbrev main_v99 : Ref sig .tc := ⟨.hbm, 228, rfl⟩
abbrev main_call5_c : Ref sig .tc := ⟨.hbm, 229, rfl⟩
abbrev main_call5_v0 : Ref sig .tc := ⟨.hbm, 230, rfl⟩
abbrev main_call5_v1 : Ref sig .tc := ⟨.hbm, 231, rfl⟩
abbrev main_call5_c_0 : Ref sig .tc := ⟨.hbm, 232, rfl⟩
abbrev main_call5_v2 : Ref sig .tc := ⟨.hbm, 233, rfl⟩
abbrev main_call5_v3 : Ref sig .tc := ⟨.hbm, 234, rfl⟩
abbrev main_call5_v4 : Ref sig .tc := ⟨.hbm, 235, rfl⟩
abbrev main_call5_v5 : Ref sig .tc := ⟨.hbm, 236, rfl⟩
abbrev main_call5_c_1 : Ref sig .tc := ⟨.hbm, 237, rfl⟩
abbrev main_call5_c_2 : Ref sig .tc := ⟨.hbm, 238, rfl⟩
abbrev main_call5_v6 : Ref sig .tc := ⟨.hbm, 239, rfl⟩
abbrev main_call5_v7 : Ref sig .tc := ⟨.hbm, 240, rfl⟩
abbrev main_call5_v8 : Ref sig .tc := ⟨.hbm, 241, rfl⟩
abbrev main_call5_v9 : Ref sig .tc := ⟨.hbm, 242, rfl⟩
abbrev main_call5_v10 : Ref sig .tc := ⟨.hbm, 243, rfl⟩
abbrev main_call5_v11 : Ref sig .tc := ⟨.hbm, 244, rfl⟩
abbrev main_call5_c_3 : Ref sig .tc := ⟨.hbm, 245, rfl⟩
abbrev main_call5_v12 : Ref sig .tc := ⟨.hbm, 246, rfl⟩
abbrev main_call5_v13 : Ref sig .tc := ⟨.hbm, 247, rfl⟩
abbrev main_call5_v14 : Ref sig .tc := ⟨.hbm, 248, rfl⟩
abbrev main_call5_cst : Ref sig .tc := ⟨.hbm, 249, rfl⟩
abbrev main_call5_v15 : Ref sig .tc := ⟨.hbm, 250, rfl⟩
abbrev main_v100 : Ref sig .tc := ⟨.hbm, 251, rfl⟩
abbrev main_v101 : Ref sig .tc := ⟨.hbm, 252, rfl⟩
abbrev main_v102 : Ref sig .tc := ⟨.hbm, 253, rfl⟩
abbrev main_v103 : Ref sig .tc := ⟨.hbm, 254, rfl⟩
abbrev main_v104 : Ref sig .tc := ⟨.hbm, 255, rfl⟩
abbrev main_call6_c : Ref sig .tc := ⟨.hbm, 256, rfl⟩
abbrev main_call6_v0 : Ref sig .tc := ⟨.hbm, 257, rfl⟩
abbrev main_call6_v1 : Ref sig .tc := ⟨.hbm, 258, rfl⟩
abbrev main_call6_c_0 : Ref sig .tc := ⟨.hbm, 259, rfl⟩
abbrev main_call6_v2 : Ref sig .tc := ⟨.hbm, 260, rfl⟩
abbrev main_call6_v3 : Ref sig .tc := ⟨.hbm, 261, rfl⟩
abbrev main_call6_v4 : Ref sig .tc := ⟨.hbm, 262, rfl⟩
abbrev main_call6_v5 : Ref sig .tc := ⟨.hbm, 263, rfl⟩
abbrev main_call6_c_1 : Ref sig .tc := ⟨.hbm, 264, rfl⟩
abbrev main_call6_c_2 : Ref sig .tc := ⟨.hbm, 265, rfl⟩
abbrev main_call6_v6 : Ref sig .tc := ⟨.hbm, 266, rfl⟩
abbrev main_call6_v7 : Ref sig .tc := ⟨.hbm, 267, rfl⟩
abbrev main_call6_v8 : Ref sig .tc := ⟨.hbm, 268, rfl⟩
abbrev main_call6_v9 : Ref sig .tc := ⟨.hbm, 269, rfl⟩
abbrev main_call6_v10 : Ref sig .tc := ⟨.hbm, 270, rfl⟩
abbrev main_call6_v11 : Ref sig .tc := ⟨.hbm, 271, rfl⟩
abbrev main_call6_c_3 : Ref sig .tc := ⟨.hbm, 272, rfl⟩
abbrev main_call6_v12 : Ref sig .tc := ⟨.hbm, 273, rfl⟩
abbrev main_call6_v13 : Ref sig .tc := ⟨.hbm, 274, rfl⟩
abbrev main_call6_c_4 : Ref sig .tc := ⟨.hbm, 275, rfl⟩
abbrev main_call6_v14 : Ref sig .tc := ⟨.hbm, 276, rfl⟩
abbrev main_v105 : Ref sig .tc := ⟨.hbm, 277, rfl⟩
abbrev main_v106 : Ref sig .tc := ⟨.hbm, 278, rfl⟩
abbrev main_v107 : Ref sig .tc := ⟨.hbm, 279, rfl⟩
abbrev main_v108 : Ref sig .tc := ⟨.hbm, 280, rfl⟩
abbrev main_v109 : Ref sig .tc := ⟨.hbm, 281, rfl⟩

abbrev nD : Nat := 1
abbrev τ : Topo := Topo.v7x

variable {F : FTy → Type} [FloatOps F]
-- ==== Proof.TileProg.lean ====
/-
  The mask kernel that each of the thirty-two tiles runs, written by recursion over its thirty-two groups of sixteen
  rows and over the twelve columns of a group, and the statement that the printed body is this program.
-/
module

public import proofs.«01_k».proof.Defs
public import Idealize.ShloMosaic.Lib.Pipeline.Regions
public import proofs.«01_k».proof.Proof.Gen.KernelIdeal

@[expose] public section

noncomputable section

namespace Cert.Proof.Tile

open Cert.KernelIdeal Cert.KernelIdeal.Gen
open Idealize.ShloMosaic Idealize.SL.Sem

variable {F : FTy → Type} [FloatOps F]

/-- One term of the width: `k` where the type is `t` and zero elsewhere, in the kernel's integer arithmetic. -/
def term (v : IVec S16 32) (t k : BitVec 32) : IVec S16 32 :=
  muli (subi (broadcast S16 1#32)
    (minsi (muli (subi v (broadcast S16 t)) (subi v (broadcast S16 t))) (broadcast S16 1#32)))
    (broadcast S16 k)

/-- The number of raw dimensions of each of sixteen rows, from the rows' types. -/
def width (v : IVec S16 32) : IVec S16 32 :=
  addi (addi (addi (addi (broadcast S16 7#32) (term v 1#32 2#32)) (term v 2#32 3#32)) (term v 3#32 4#32))
    (term v 4#32 5#32)

/-- Column `c` of the mask at sixteen rows whose widths are `w`: one where `c` is below the width, zero elsewhere. -/
def col (w : IVec S16 32) (c : ℕ) : FVec F S16 .f32 :=
  sitofp .f32 (minsi (maxsi (subi w (broadcast S16 (BitVec.ofNat 32 c))) (broadcast S16 0#32)) (broadcast S16 1#32))

/-- A group of sixteen types lies in the tile's list, -/
theorem inb_types {g : ℕ} (h : g < 32) : ∀ a, (![16 * g] : Fin 1 → Nat) a + S16.size a ≤ S512.size a := by
  intro a
  fin_cases a
  change 16 * g + 16 ≤ 512
  omega

/-- sixteen cells of a column lie in the tile's mask -/
theorem inb_cell {c g : ℕ} (hc : c < 12) (hg : g < 32) :
    ∀ a, (![c, 16 * g] : Fin 2 → Nat) a + S1x16.size a ≤ S12x512.size a := by
  intro a
  fin_cases a
  · change c + 1 ≤ 12
    omega
  · change 16 * g + 16 ≤ 512
    omega

/-- and so does a column. -/
theorem inb_row {c : ℕ} (hc : c < 12) :
    ∀ a, (![c, 0] : Fin 2 → Nat) a + S1x512.size a ≤ S12x512.size a := by
  intro a
  fin_cases a
  · change c + 1 ≤ 12
    omega
  · change 0 + 512 ≤ 512
    omega

section Program

variable (i : grid0.Coords)

/-- The programs a tile runs. -/
abbrev TileProg (F : FTy → Type) [FloatOps F] (i : grid0.Coords) : Type → Type 1 :=
  Prog (TpuEff nD τ sig (Elt F) Λ₀ (.scVector ((i 0).castLE hcore0) ((i 1).castLE hsub0)))

variable (arg2 : Memref sig .scVector .hbm S16384 .i32) (arg3 : Memref sig .scVector .hbm S12x16384 .f32)
  (arg4 : Memref sig .scVector .vmem S512 .i32) (harg4 : arg4.IsWhole) (arg5 : Memref sig .scVector .vmem S12x512 .f32)

/-- Sixteen rows' slice of column `c`: the kernel reads the sixteen cells it is about to write, and writes them. -/
def cell (w : IVec S16 32) (c g : ℕ) (hc : c < 12) (hg : g < 32) : TileProg F i PUnit := do
  let _ ← Prog.lift (.load arg5 (Rect.unit (s := S12x512) ![c, 16 * g] S1x16.size (inb_cell hc hg)).toLoadRect
    (View.loadsAt_vmem h_S1x16))
  Prog.lift (.store arg5 (Rect.unit (s := S12x512) ![c, 16 * g] S1x16.size (inb_cell hc hg))
    (shapeCast S1x16 (col (F := F) w c) shapeCasts_S16_S1x16) Finset.univ
    (View.stores_vmem_bits_univ h_S1x16 rfl) (.inl rfl))

/-- The last `n` columns of group `g`. -/
def cells (w : IVec S16 32) (g : ℕ) (hg : g < 32) : (n : ℕ) → n ≤ 12 → TileProg F i PUnit
  | 0, _ => pure ⟨⟩
  | n + 1, h => do
    cell i arg5 w (11 - n) g (by omega) hg
    cells w g hg n (by omega)

/-- Group `g`: its sixteen rows' types are read, and its twelve columns written. -/
def group (g : ℕ) (hg : g < 32) : TileProg F i PUnit := do
  let v ← Prog.lift (.load arg4 (Rect.unit (s := S512) ![16 * g] S16.size (inb_types hg)).toLoadRect
    (View.loadsAt_vmem h_S16))
  cells i arg5 (width (shapeCast S16 v shapeCasts_S16_S16)) g hg 12 le_rfl

/-- The last `n` groups. -/
def groups : (n : ℕ) → n ≤ 32 → TileProg F i PUnit
  | 0, _ => pure ⟨⟩
  | n + 1, h => do
    group i arg4 arg5 (31 - n) (by omega)
    groups n (by omega)

/-- The tile's types are fetched. -/
def fetch (r : DmaSems sig S_) : TileProg F i PUnit := do
  Prog.lift (.enqueueDma (arg2.slice (Rect.unit (s := S16384) (k0_off1 i) S512.size (k0_off1_inb i)) (fun _ => rfl))
    (.here arg4) (.dma r.sem) (View.wordExact_bits rfl) harg4.wordExact ⟨Or.inl rfl, trivial⟩)
  Prog.lift (.waitDma2 r.sem
    (arg2.slice (Rect.unit (s := S16384) (k0_off1 i) S512.size (k0_off1_inb i)) (fun _ => rfl)) arg4
    (View.wordExact_bits rfl) harg4.wordExact)

/-- Column `c` of the tile's mask, as the tile holds it. -/
abbrev srcRow (c : ℕ) (hc : c < 12) : Memref sig .scVector .vmem S512 .f32 :=
  (arg5.slice (Rect.unit (s := S12x512) ![c, 0] S1x512.size (inb_row hc)) (fun _ => rfl)).squeeze S512
    squeezes_S1x512_S512

/-- The 512 cells of one row of the result that start at `off`. -/
abbrev dstRow (off : Fin 2 → ℕ) (inb : ∀ a, off a + S1x512.size a ≤ S12x16384.size a) :
    Memref sig .scVector .hbm S512 .f32 :=
  (arg3.slice (Rect.unit (s := S12x16384) off S1x512.size inb) (fun _ => rfl)).squeeze S512
    squeezes_S1x512_S512

/-- Column `c` of the tile's mask is written to the result at `off`. -/
def put (c : ℕ) (hc : c < 12) (off : Fin 2 → ℕ) (inb : ∀ a, off a + S1x512.size a ≤ S12x16384.size a)
    (r : DmaSems sig S_) : TileProg F i PUnit := do
  Prog.lift (.enqueueDma (srcRow arg5 c hc) (.here (dstRow arg3 off inb)) (.dma r.sem)
    ((View.wordExact_bits rfl).reshape _ _) ((View.wordExact_bits rfl).reshape _ _) ⟨Or.inl rfl, trivial⟩)
  Prog.lift (.waitDma2 r.sem (srcRow arg5 c hc) (dstRow arg3 off inb)
    ((View.wordExact_bits rfl).reshape _ _) ((View.wordExact_bits rfl).reshape _ _))

/-- The twelve columns are written to the result, one after another. -/
def puts (r1 r2 r3 r4 r5 r6 r7 r8 r9 r10 r11 r12 : DmaSems sig S_) : TileProg F i PUnit := do
  put i arg3 arg5 0 (by decide) (k0_off2 i) (k0_off2_inb i) r1
  put i arg3 arg5 1 (by decide) (k0_off3 i) (k0_off3_inb i) r2
  put i arg3 arg5 2 (by decide) (k0_off4 i) (k0_off4_inb i) r3
  put i arg3 arg5 3 (by decide) (k0_off5 i) (k0_off5_inb i) r4
  put i arg3 arg5 4 (by decide) (k0_off6 i) (k0_off6_inb i) r5
  put i arg3 arg5 5 (by decide) (k0_off7 i) (k0_off7_inb i) r6
  put i arg3 arg5 6 (by decide) (k0_off8 i) (k0_off8_inb i) r7
  put i arg3 arg5 7 (by decide) (k0_off9 i) (k0_off9_inb i) r8
  put i arg3 arg5 8 (by decide) (k0_off10 i) (k0_off10_inb i) r9
  put i arg3 arg5 9 (by decide) (k0_off11 i) (k0_off11_inb i) r10
  put i arg3 arg5 10 (by decide) (k0_off12 i) (k0_off12_inb i) r11
  put i arg3 arg5 11 (by decide) (k0_off13 i) (k0_off13_inb i) r12

/-- The printed body fetches the types, fills the tile's mask group by group and writes it out column by column. -/
theorem body_eq (harg2 : arg2.IsWhole) (harg3 : arg3.IsWhole) (harg5 : arg5.IsWhole)
    (r0 r1 r2 r3 r4 r5 r6 r7 r8 r9 r10 r11 r12 : DmaSems sig S_) :
    cc0__sc_body (F := F) i arg2 harg2 arg3 harg3 arg4 harg4 arg5 harg5 r0 r1 r2 r3 r4 r5 r6 r7 r8 r9 r10 r11 r12
      = (do
        fetch i arg2 arg4 harg4 r0
        groups i arg4 arg5 32 le_rfl
        puts i arg3 arg5 r1 r2 r3 r4 r5 r6 r7 r8 r9 r10 r11 r12) := by
  chain_rfl

end Program

end Cert.Proof.Tile
-- ==== Proof.Setup.lean ====
/-
  The launch's set-up: the program as the launch theorem sees it, the resource algebra (the calls' handshakes, the
  pipelined call's rounds, the copies' counters), and the arrays that the calls work on.
-/
module

public import proofs.«01_k».proof.Proof.TileProg
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pointwise.Index
public import Idealize.ShloMosaic.Lib.Writes
public import Idealize.ShloMosaic.Lib.Tactic

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.Sem
open Idealize.ShloMosaic.Rounds

variable {F : FTy → Type}

/-! ## The program -/

/-- The labels of the fused call's region beside the kernels'. -/
abbrev ΛP : Labels := Pipeline.Sig Λ₀ (Fin 1) fun p => (pcfgs (F := F) p).Adm
/-- The SparseCore calls. -/
abbrev K : SparseCore.Cfg τ sig (ΛP (F := F)) 1 := sc (F := F)
/-- The bodies by label. -/
abbrev D [FloatOps F] : Defs nD τ sig (Elt F) (ΛP (F := F)) := Pipeline.defs pcfgs defs₀
/-- No loop variant is used in the kernels' bodies, -/
abbrev 𝒱₀ : Variants := Variants.none
/-- nor in the region's, -/
abbrev 𝒱 : Variants := 𝒱₀.lift
/-- and each thread starts at none. -/
abbrev v₀ : 𝒱.V := Sum.inl none

/-- The SparseCore calls' own conditions. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The handshakes' rounds, the pipelined call's rounds, the copies' counters. -/
abbrev UU : Type := UH × (UR sig nD τ × Counters)
/-- The machine's algebra of this certificate. -/
abbrev MM (F : FTy → Type) : Type _ := MT nD τ sig (HIx 1) (Elt F) ℕ UU ℕ

/-- Where the handshakes' ghost state lies. -/
abbrev EH : Emb UH (MM F) := embL
/-- The pipelined call's rounds' place in the algebra. -/
def EP : Emb (UR sig nD τ) (MM F) := (Emb.inl : Emb (UR sig nD τ) (UR sig nD τ × Counters)).trans embR

/-- The region's ghost state lies in the part set aside for it. -/
instance EP_landsIn : (EP (F := F)).LandsIn (upEmb : UEmb _ (MM F)) := by
  unfold EP embR
  infer_instance

/-! ## The arrays of the mask call -/

/-- The types, one word a row, as the mask call reads them; -/
abbrev tLoc (d : Dev nD) : Loc nD τ sig := (SparseCore.T d).loc main_v11
/-- the mask that the call writes, transposed: twelve rows of 16384 cells. -/
abbrev oLoc (d : Dev nD) : Loc nD τ sig := (SparseCore.T d).loc main_v12

end Cert.Proof.Run
-- ==== Proof.MaskCells.lean ====
/-
  What one cell of the mask is: the value that the tile's integer arithmetic gives for a row's type and a column.
-/
module

public import proofs.«01_k».proof.Proof.TileProg
public import Idealize.ShloMosaic.Lib.Pointwise.Index

@[expose] public section

noncomputable section

namespace Cert.Proof.Tile

open Cert.KernelIdeal Cert.KernelIdeal.Gen
open Idealize.ShloMosaic Idealize.SL.Sem

variable {F : FTy → Type} [FloatOps F]

/-- One term of a row's width: `k` where the type `x` is `t`, zero elsewhere. -/
def term1 (x t k : BitVec 32) : BitVec 32 :=
  IntOp.muli (IntOp.subi 1#32 (IntOp.minsi (IntOp.muli (IntOp.subi x t) (IntOp.subi x t)) 1#32)) k

/-- The number of raw dimensions of a row whose type is `x`. -/
def width1 (x : BitVec 32) : BitVec 32 :=
  IntOp.addi (IntOp.addi (IntOp.addi (IntOp.addi 7#32 (term1 x 1#32 2#32)) (term1 x 2#32 3#32)) (term1 x 3#32 4#32))
    (term1 x 4#32 5#32)

/-- The mask's cell of a row of type `x` at column `c`. -/
def cell1 (F : FTy → Type) [FloatOps F] (x : BitVec 32) (c : ℕ) : F .f32 :=
  FloatOps.sitofp .f32
    (IntOp.minsi (IntOp.maxsi (IntOp.subi (width1 x) (BitVec.ofNat 32 c)) 0#32) 1#32)

/-- Lane by lane, the tile's column is the cell. -/
theorem col_width (v : IVec S16 32) (c : ℕ) (j : S16.Idx) : col (F := F) (width v) c j = cell1 F (v j) c := rfl

/-- A tile's mask, from its 512 types. -/
def tileMask (F : FTy → Type) [FloatOps F] (t : S512.Idx → BitVec 32) (y : S12x512.Idx) : F .f32 :=
  cell1 F (t (ix1 (n0 := 512) (y 1))) (y 0).val

/-- The whole mask, transposed, from all the rows' types. -/
def maskT (F : FTy → Type) [FloatOps F] (t : S16384.Idx → BitVec 32) (y : S12x16384.Idx) : F .f32 :=
  cell1 F (t (ix1 (n0 := 16384) (y 1))) (y 0).val

end Cert.Proof.Tile
-- ==== Proof.TileSteps.lean ====
/-
  The steps of a tile: a local copy and its wait; one column of a group; a group; all the groups. The mask buffer's
  cells are carried by their values: after a step, the cells it has written hold the mask.
-/
module

public import proofs.«01_k».proof.Proof.Setup
public import proofs.«01_k».proof.Proof.MaskCells

@[expose] public section

noncomputable section

namespace Cert.Proof.Run

open Cert.KernelIdeal Cert.KernelIdeal.Gen Cert.Proof.Tile
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Steps

variable (d : Dev nD) (L : grid0.Coords)

/-- The tile's core -/
abbrev cV (L : grid0.Coords) : Fin τ.nSC := (L 0).castLE hcore0
/-- and its subcore. -/
abbrev jV (L : grid0.Coords) : Fin τ.nSub := (L 1).castLE hsub0
/-- The tile's thread. -/
abbrev thr (d : Dev nD) (L : grid0.Coords) : Thread nD τ := V d (cV L) (jV L)

/-- A local copy and its wait: the destination's elements hold what was read from the source's, and the counter is
    back at zero. -/
theorem wp_copy {sp sp' : Space} {s : Shape} {e : EltTy} (src : Memref sig .scVector sp s e)
    (dst : Memref sig .scVector sp' s e) (sem : DmaSem sig)
    {hs : src.view.WordExact} {hd : dst.view.WordExact} {hT : DmaTarget.Typed (nD := nD) sp (.dma sem) (DmaTarget.here (p := .scVector (cV L) (jV L)) dst)}
    {hs' : src.view.WordExact} {hd' : dst.view.WordExact}
    (q : PosShare TreeShare) (fs : Buf (Elt F) (src.view.loc (thr d L))) (fd : Buf (Elt F) (dst.view.loc (thr d L)))
    (O : CellTallies nD τ sig (HIx 1)) (W : Waits sig (HIx 1)) (hN : 0 < dst.view.dmaCredit) :
    iprop((src.view.loc (thr d L) ↦[src.view.set]{q} fs) ∗ (dst.view.loc (thr d L) ↦[dst.view.set]{fullShare} fd)
        ∗ semVal (thr d L, SemLoc.dma sem) 0 ∗ owes (thr d L) O W
        ∗ Transfers.MayWaits (thr d L) (none : HIx 1) O)
      ⊢ (wp frame (wpE (defs₀ (F := F)) 𝒱₀ (thr d L) none) Set.univ
          (do
            Prog.lift (.enqueueDma src (.here dst) (.dma sem) hs hd hT)
            Prog.lift (.waitDma2 sem src dst hs' hd') : TileProg F L PUnit)
          fun _ => iprop((dst.view.loc (thr d L) ↦[dst.view.set]{fullShare}
              (dst.view.write (Elt F) fd (src.view.read (Elt F) fs) Finset.univ))
            ∗ (src.view.loc (thr d L) ↦[src.view.set]{q} fs) ∗ semVal (thr d L, SemLoc.dma sem) 0
            ∗ owes (thr d L) O (insert (SemLoc.dma sem, none) W)) : sProp 𝕄) := by
  iintro ⟨Hs, Hd, Hv, HO, #Hmw⟩
  iapply (Transfers.wp_dmaLocal countersEmb 𝒱₀ (thr d L) none (none : HIx 1) (dst.view.amount (.dma sem)) rfl hN
    (Finset.Subset.refl _)) $$ [Hs Hd Hv]
  · isplitl [Hs]; · iexact Hs
    isplitl [Hd]; · iexact Hd
    iexact Hv
  iintro Hfl
  iapply (Transfers.wp_waitLocalO countersEmb 𝒱₀ (thr d L) none (none : HIx 1) rfl) $$ [Hfl HO]
  · isplitl [Hfl]; · iexact Hfl
    isplitl [HO]; · iexact HO
    iapply (Transfers.MayWaits.elim (SemLoc.dma sem)) $$ Hmw
  iintro ⟨⟨Hd, Hs⟩, Hv, HO⟩
  iapply (le_wp_ret _ _ _ _ _)
  isplitl [Hd]; · iexact Hd
  isplitl [Hs]; · iexact Hs
  isplitl [Hv]; · iexact Hv
  iexact HO

/-! ## The mask buffer -/

local notation "a4" => (Memref.whole Cert.KernelIdeal.cc0_scratch0 :
  Memref Cert.KernelIdeal.sig Kind.scVector Space.vmem Cert.KernelIdeal.S512 EltTy.i32)
local notation "a5" => (Memref.whole Cert.KernelIdeal.cc0_scratch1 :
  Memref Cert.KernelIdeal.sig Kind.scVector Space.vmem Cert.KernelIdeal.S12x512 EltTy.f32)

/-- The tile holds its mask buffer, and the cells that meet `P` hold the mask of the types `t`. -/
def maskBuf (P : S12x512.Idx → Prop) (t : S512.Idx → BitVec 32) : sProp 𝕄 :=
  iprop(∃ f : S12x512.Idx → F .f32, ⌜∀ y, P y → f y = tileMask F t y⌝
    ∗ (thr d L).loc cc0_scratch1 ↦{fullShare} (f : Buf (Elt F) ((thr d L).loc cc0_scratch1)))

/-- Fewer cells may be claimed. -/
theorem maskBuf_mono {P P' : S12x512.Idx → Prop} (t : S512.Idx → BitVec 32) (h : ∀ y, P' y → P y) :
    (maskBuf d L P t : sProp 𝕄) ⊢ maskBuf d L P' t := by
  unfold maskBuf
  iintro ⟨%f, %hf, Hb⟩
  iexists f
  isplitr
  · ipureintro
    exact fun y hy => hf y (h y hy)
  · iexact Hb

/-- The cells of column `c` of group `g`. -/
def inCell (c g : ℕ) (y : S12x512.Idx) : Prop := (y 0).val = c ∧ 16 * g ≤ (y 1).val ∧ (y 1).val < 16 * g + 16

/-- The sixteen cells that a store of one column of a group covers. -/
abbrev cellRect {c g : ℕ} (hc : c < 12) (hg : g < 32) : Rect S12x512 :=
  Rect.unit (s := S12x512) ![c, 16 * g] S1x16.size (inb_cell hc hg)

/-- A store of one column of a group leaves the column in the cells it covers. -/
theorem write_cell_in (f : S12x512.Idx → F .f32) (w : FVec F S16 .f32) {c g : ℕ} (hc : c < 12) (hg : g < 32)
    (y : S12x512.Idx) (h : inCell c g y) :
    ((a5).access (cellRect hc hg)).write (Elt F) f (shapeCast S1x16 w shapeCasts_S16_S1x16) Finset.univ y
      = w (ix1 (n0 := 16) ⟨(y 1).val - 16 * g, by have := h.2; omega⟩) := by
  obtain ⟨h0, h1, h2⟩ := h
  have hlt : (y 1).val - 16 * g < 16 := by omega
  have hy : y = ((a5).access (cellRect hc hg)).emb (ix2 (n0 := 1) (n1 := 16) 0 ⟨(y 1).val - 16 * g, hlt⟩) := by
    funext a
    fin_cases a
    · exact Fin.ext (by
        change (y 0).val = c + 1 * 0
        omega)
    · exact Fin.ext (by
        change (y 1).val = 16 * g + 1 * ((y 1).val - 16 * g)
        omega)
  have e := View.write_emb_of_mem (v := (a5).access (cellRect hc hg)) (Val := Elt F) f
    (shapeCast S1x16 w shapeCasts_S16_S1x16)
    (Finset.mem_univ (ix2 (n0 := 1) (n1 := 16) 0 ⟨(y 1).val - 16 * g, hlt⟩))
  rw [← hy] at e
  refine e.trans ?_
  rw [cast_eq]
  refine congrArg w (Shape.reshapeEquiv_eq_of_rowMajor _ ?_)
  simp only [Shape.rowMajor_val_two, Shape.rowMajor_val_one]
  change (y 1).val - 16 * g = 0 * 16 + ((y 1).val - 16 * g)
  omega

/-- It leaves the other cells as they were. -/
theorem write_cell_out (f : S12x512.Idx → F .f32) (w : FVec F S16 .f32) {c g : ℕ} (hc : c < 12) (hg : g < 32)
    (y : S12x512.Idx) (h : ¬ inCell c g y) :
    ((a5).access (cellRect hc hg)).write (Elt F) f (shapeCast S1x16 w shapeCasts_S16_S1x16) Finset.univ y = f y := by
  refine View.write_of_not_mem _ _ _ fun hm => h ?_
  have hm' : y ∈ (cellRect hc hg).set :=
    (Finset.ext_iff.mp (View.set_slice_whole (cc0_scratch1 : Ref sig .scVector) (cellRect hc hg)) y).mp
      (View.setOn_subset_set _ _ hm)
  rw [Rect.mem_set_unit] at hm'
  have h0 := hm' 0
  have h1 := hm' 1
  change c ≤ (y 0).val ∧ (y 0).val < c + 1 at h0
  change 16 * g ≤ (y 1).val ∧ (y 1).val < 16 * g + 16 at h1
  exact ⟨by omega, h1⟩

/-- One column of one group: the buffer's cells that held the mask still do, and the column's sixteen as well. -/
theorem wp_cell (t : S512.Idx → BitVec 32) (w : IVec S16 32) {c g : ℕ} (hc : c < 12) (hg : g < 32)
    (hw : ∀ j : Fin 16, col (F := F) w c (ix1 j) = cell1 F (t (ix1 (n0 := 512) ⟨16 * g + j.val, by omega⟩)) c)
    (P P' : S12x512.Idx → Prop) (hP : ∀ y, P' y → inCell c g y ∨ P y) :
    (maskBuf d L P t : sProp 𝕄)
      ⊢ wp frame (wpE (defs₀ (F := F)) 𝒱₀ (thr d L) none) Set.univ (cell (F := F) L a5 w c g hc hg)
          fun _ => maskBuf d L P' t := by
  unfold maskBuf
  iintro ⟨%f, %hf, Hb⟩
  unfold cell
  iapply (wp_load_rect 𝒱₀ (thr d L) none Set.univ (m := a5) (r := cellRect hc hg) (S := Finset.univ)
    (f := (f : Buf (Elt F) ((thr d L).loc cc0_scratch1))) (Finset.subset_univ _)) $$ Hb
  iintro Hb
  iapply (wp_store 𝒱₀ (thr d L) none Set.univ (m := a5) (r := cellRect hc hg) (S := Finset.univ)
    (f := (f : Buf (Elt F) ((thr d L).loc cc0_scratch1))) (Finset.subset_univ _)) $$ Hb
  iintro Hb
  iapply (le_wp_ret _ _ _ _ _)
  iexists _
  isplitr
  swap; · iexact Hb
  ipureintro
  intro y hy
  by_cases h : inCell c g y
  · rw [write_cell_in f _ hc hg y h, hw]
    refine congrArg₂ (cell1 F) (congrArg t (congrArg (ix1 (n0 := 512)) (Fin.ext ?_))) h.1.symm
    have := h.2
    change 16 * g + ((y 1).val - 16 * g) = (y 1).val
    omega
  · rw [write_cell_out f _ hc hg y h]
    exact hf y ((hP y hy).resolve_left h)

/-- The last `n` columns of a group. -/
theorem wp_cells (t : S512.Idx → BitVec 32) (w : IVec S16 32) {g : ℕ} (hg : g < 32)
    (hw : ∀ c, ∀ j : Fin 16, col (F := F) w c (ix1 j) = cell1 F (t (ix1 (n0 := 512) ⟨16 * g + j.val, by omega⟩)) c) :
    ∀ (n : ℕ) (hn : n ≤ 12),
      (maskBuf d L (fun y => (y 1).val < 16 * g ∨ ((y 1).val < 16 * g + 16 ∧ (y 0).val < 12 - n)) t : sProp 𝕄)
        ⊢ wp frame (wpE (defs₀ (F := F)) 𝒱₀ (thr d L) none) Set.univ (cells (F := F) L a5 w g hg n hn)
            fun _ => maskBuf d L (fun y => (y 1).val < 16 * g + 16) t
  | 0, _ => by
    refine BI.Entails.trans ?_ (le_wp_ret _ _ _ _ _)
    exact maskBuf_mono d L t fun y hy => Or.inr ⟨hy, (y 0).isLt⟩
  | n + 1, h => by
    unfold cells
    rw [wp_bind]
    refine (wp_cell d L t w (c := 11 - n) (g := g) (by omega) hg (hw _) _
      (fun y => (y 1).val < 16 * g ∨ ((y 1).val < 16 * g + 16 ∧ (y 0).val < 12 - n)) ?_).trans
      (wp_mono frame _ _ fun _ => wp_cells t w hg hw n (by omega))
    intro y hy
    unfold inCell
    omega

/-- The tile holds its types, and one group's columns are written from them. -/
theorem wp_group (t : S512.Idx → BitVec 32) {g : ℕ} (hg : g < 32) :
    iprop(((thr d L).loc cc0_scratch0 ↦{fullShare} (t : Buf (Elt F) ((thr d L).loc cc0_scratch0)))
        ∗ maskBuf d L (fun y => (y 1).val < 16 * g) t)
      ⊢ (wp frame (wpE (defs₀ (F := F)) 𝒱₀ (thr d L) none) Set.univ (group (F := F) L a4 a5 g hg)
          fun _ => iprop(((thr d L).loc cc0_scratch0 ↦{fullShare} (t : Buf (Elt F) ((thr d L).loc cc0_scratch0)))
            ∗ maskBuf d L (fun y => (y 1).val < 16 * g + 16) t) : sProp 𝕄) := by
  iintro ⟨Ht, Hb⟩
  unfold group
  iapply (wp_load_rect 𝒱₀ (thr d L) none Set.univ (m := a4)
    (r := Rect.unit (s := S512) ![16 * g] S16.size (inb_types hg)) (S := Finset.univ)
    (f := (t : Buf (Elt F) ((thr d L).loc cc0_scratch0))) (Finset.subset_univ _)) $$ Ht
  iintro Ht
  have hw : ∀ c, ∀ j : Fin 16, col (F := F) (width (shapeCast S16
      (((a4).access (Rect.unit (s := S512) ![16 * g] S16.size (inb_types hg))).read (Elt F) t)
      shapeCasts_S16_S16)) c (ix1 j) = cell1 F (t (ix1 (n0 := 512) ⟨16 * g + j.val, by omega⟩)) c := by
    intro c j
    rw [col_width]
    refine congrArg (fun x => cell1 F x c) ?_
    unfold shapeCast
    rw [Shape.reshapeEquiv_self, View.read_apply, cast_eq]
    refine congrArg t ?_
    funext a
    fin_cases a
    refine Fin.ext ?_
    change 16 * g + 1 * j.val = 16 * g + j.val
    omega
  have hall : (maskBuf d L (fun y => (y 1).val < 16 * g) t : sProp 𝕄)
      ⊢ maskBuf d L (fun y => (y 1).val < 16 * g ∨ ((y 1).val < 16 * g + 16 ∧ (y 0).val < 12 - 12)) t :=
    maskBuf_mono d L t fun y hy => hy.resolve_right fun h => by omega
  ihave Hb := hall $$ Hb
  ihave Hw := (wp_cells d L t _ hg hw 12 le_rfl) $$ Hb
  iapply wp_wand $$ Hw
  iintro %_ Hb
  isplitl [Ht]; · iexact Ht
  iexact Hb

/-- The last `n` groups: at the end the whole buffer holds the mask. -/
theorem wp_groups (t : S512.Idx → BitVec 32) : ∀ (n : ℕ) (hn : n ≤ 32),
    iprop(((thr d L).loc cc0_scratch0 ↦{fullShare} (t : Buf (Elt F) ((thr d L).loc cc0_scratch0)))
        ∗ maskBuf d L (fun y => (y 1).val < 16 * (32 - n)) t)
      ⊢ (wp frame (wpE (defs₀ (F := F)) 𝒱₀ (thr d L) none) Set.univ (groups (F := F) L a4 a5 n hn)
          fun _ => iprop(((thr d L).loc cc0_scratch0 ↦{fullShare} (t : Buf (Elt F) ((thr d L).loc cc0_scratch0)))
            ∗ maskBuf d L (fun _ => True) t) : sProp 𝕄)
  | 0, _ => by
    refine BI.Entails.trans ?_ (le_wp_ret _ _ _ _ _)
    exact sep_mono_right (maskBuf_mono d L t fun y _ => (y 1).isLt)
  | n + 1, h => by
    unfold groups
    rw [wp_bind]
    have e : 16 * (32 - (n + 1)) = 16 * (31 - n) := by omega
    have e' : 16 * (31 - n) + 16 = 16 * (32 - n) := by omega
    rw [e]
    refine (wp_group d L t (g := 31 - n) (by omega)).trans (wp_mono frame _ _ fun _ => ?_)
    rw [e']
    exact wp_groups t n (by omega)

end Steps

end Cert.Proof.Run
-- ==== Proof.TileRun.lean ====
/-
  One tile's whole run: its types fetched, its mask filled, its twelve columns written to the result, which then holds
  the mask on the tile's cells.
-/
module

public import proofs.«01_k».proof.Proof.TileSteps

@[expose] public section

noncomputable section

namespace Cert.Proof.Run

open Cert.KernelIdeal Cert.KernelIdeal.Gen Cert.Proof.Tile
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "a2" => (Memref.whole Cert.KernelIdeal.main_v11_scv :
  Memref Cert.KernelIdeal.sig Kind.scVector Space.hbm Cert.KernelIdeal.S16384 EltTy.i32)
local notation "a3" => (Memref.whole Cert.KernelIdeal.main_v12_scv :
  Memref Cert.KernelIdeal.sig Kind.scVector Space.hbm Cert.KernelIdeal.S12x16384 EltTy.f32)
local notation "a4" => (Memref.whole Cert.KernelIdeal.cc0_scratch0 :
  Memref Cert.KernelIdeal.sig Kind.scVector Space.vmem Cert.KernelIdeal.S512 EltTy.i32)
local notation "a5" => (Memref.whole Cert.KernelIdeal.cc0_scratch1 :
  Memref Cert.KernelIdeal.sig Kind.scVector Space.vmem Cert.KernelIdeal.S12x512 EltTy.f32)

/-! ## A tile's part of the arrays -/

/-- The first row of the tile `s` of SparseCore `c`. -/
def base (c s : ℕ) : ℕ := 1024 * s + 512 * c

/-- The tile's 512 types. -/
def tPiece (c s : ℕ) : Finset S16384.Idx :=
  Finset.univ.filter fun j => base c s ≤ (j 0).val ∧ (j 0).val < base c s + 512

/-- The tile's 512 cells of row `k` of the transposed mask. -/
def oPiece (c s k : ℕ) : Finset S12x16384.Idx :=
  Finset.univ.filter fun y => (y 0).val = k ∧ base c s ≤ (y 1).val ∧ (y 1).val < base c s + 512

section Tile

variable (d : Dev nD) (L : grid0.Coords)

/-- The tile's types, as the tile reads them. -/
abbrev tView : Memref sig .scVector .hbm S512 .i32 :=
  (a2).slice (Rect.unit (s := S16384) (k0_off1 L) S512.size (k0_off1_inb L)) (fun _ => rfl)

/-- A tile's rows end before the array does. -/
theorem base_le (L : grid0.Coords) : base (L 0).val (L 1).val + 512 ≤ 16384 := by
  have h0 : (L 0).val < 2 := (L 0).isLt
  have h1 : (L 1).val < 16 := (L 1).isLt
  unfold base
  omega

/-- The view that a tile reads is its piece of the types. -/
theorem tView_set : (tView L).view.set = tPiece (L 0).val (L 1).val := by
  refine (View.set_slice_whole (main_v11_scv : Ref sig .scVector) _).trans ?_
  ext j
  rw [Rect.mem_set_unit, tPiece, Finset.mem_filter, base, k0_off1_eq]
  constructor
  · intro h
    exact ⟨Finset.mem_univ _, h 0⟩
  · intro h a
    fin_cases a
    exact h.2

/-- The tile's type at its row `x`, among all the types. -/
theorem tView_read (t : S16384.Idx → BitVec 32) (x : S512.Idx) :
    (tView L).view.read (Elt F) t x
      = t (ix1 (n0 := 16384) ⟨base (L 0).val (L 1).val + (x 0).val, by
          have := base_le L
          have : (x 0).val < 512 := (x 0).isLt
          omega⟩) := by
  rw [View.read_apply, cast_eq]
  refine congrArg t ?_
  funext a
  fin_cases a
  refine Fin.ext ?_
  change k0_off1 L 0 + 1 * (x 0).val = base (L 0).val (L 1).val + (x 0).val
  rw [k0_off1_eq]
  change 1024 * (L 1).val + 512 * (L 0).val + 1 * (x 0).val = 1024 * (L 1).val + 512 * (L 0).val + (x 0).val
  omega

/-- The types of the tile's 512 rows. -/
def tileTypes (t : S16384.Idx → BitVec 32) (x : S512.Idx) : BitVec 32 :=
  t (ix1 (n0 := 16384) ⟨base (L 0).val (L 1).val + (x 0).val, by
    have := base_le L
    have : (x 0).val < 512 := (x 0).isLt
    omega⟩)

/-- An entry of a row copy's source lies in its own row, -/
theorem srcRow_emb {k : ℕ} (hk : k < 12) (x : S512.Idx) :
    (srcRow a5 k hk).view.emb x = ix2 (n0 := 12) (n1 := 512) ⟨k, hk⟩ (x 0) := by
  have e : (srcRow a5 k hk).view.emb x
      = (Rect.unit (s := S12x512) ![k, 0] S1x512.size (inb_row hk)).emb
          (Shape.reshapeEquiv (squeezes_S1x512_S512).numel_eq x) := rfl
  rw [e, Shape.reshapeEquiv_cons_one]
  funext a
  fin_cases a
  · refine Fin.ext ?_
    change k + 1 * 0 = k
    omega
  · refine Fin.ext ?_
    change 0 + 1 * (x 0).val = (x 0).val
    omega

/-- an entry of its destination at the tile's place in the same row, -/
theorem dstRow_emb {k b : ℕ} {off : Fin 2 → ℕ} {inb : ∀ a, off a + S1x512.size a ≤ S12x16384.size a}
    (ho : off = ![k, b]) (hk : k < 12) (x : S512.Idx) (hb : b + (x 0).val < 16384) :
    (dstRow a3 off inb).view.emb x = ix2 (n0 := 12) (n1 := 16384) ⟨k, hk⟩ ⟨b + (x 0).val, hb⟩ := by
  subst ho
  have e : (dstRow a3 ![k, b] inb).view.emb x
      = (Rect.unit (s := S12x16384) ![k, b] S1x512.size inb).emb
          (Shape.reshapeEquiv (squeezes_S1x512_S512).numel_eq x) := rfl
  rw [e, Shape.reshapeEquiv_cons_one]
  funext a
  fin_cases a
  · refine Fin.ext ?_
    change k + 1 * 0 = k
    omega
  · refine Fin.ext ?_
    change b + 1 * (x 0).val = b + (x 0).val
    omega

/-- and the destination is the row's piece of the mask. -/
theorem dstRow_set {k : ℕ} {off : Fin 2 → ℕ} {inb : ∀ a, off a + S1x512.size a ≤ S12x16384.size a}
    (ho : off = ![k, base (L 0).val (L 1).val]) :
    (dstRow a3 off inb).view.set = oPiece (L 0).val (L 1).val k := by
  subst ho
  refine (View.set_reshape _ _).trans ?_
  refine (View.set_slice_whole (main_v12_scv : Ref sig .scVector) _).trans ?_
  ext y
  rw [Rect.mem_set_unit]
  simp only [oPiece, Finset.mem_filter, Finset.mem_univ, true_and]
  constructor
  · intro h
    have h0 := h 0
    have h1 := h 1
    change k ≤ (y 0).val ∧ (y 0).val < k + 1 at h0
    exact ⟨by omega, h1⟩
  · intro h a
    fin_cases a
    · change k ≤ (y 0).val ∧ (y 0).val < k + 1
      omega
    · exact h.2

/-! ## One column of the result -/

/-- What a tile keeps while it writes its columns out: its filled mask buffer, what it owes, and the evidence that it
    may wait. -/
def Keep (t : S16384.Idx → BitVec 32) (O : CellTallies nD τ sig (HIx 1)) (W : Waits sig (HIx 1)) : sProp 𝕄 :=
  iprop(maskBuf d L (fun _ => True) (tileTypes L t)
    ∗ (∃ W', ⌜∀ p ∈ W', p ∈ W ∨ p.2 = none⌝ ∗ owes (thr d L) O W')
    ∗ Transfers.MayWaits (thr d L) (none : HIx 1) O)

/-- The tile's cells of row `k` of the result, at the contents `f`, and a DMA semaphore of its own at zero. -/
def Cell (k : ℕ) (sem : DmaSem sig) (f : S12x16384.Idx → F .f32) : sProp 𝕄 :=
  iprop((oLoc d ↦[oPiece (L 0).val (L 1).val k]{fullShare} (f : Buf (Elt F) (oLoc d)))
    ∗ semVal (thr d L, SemLoc.dma sem) 0)

/-- Writing column `k` out: the tile's cells of row `k` hold the mask. -/
theorem wp_put (t : S16384.Idx → BitVec 32) (O : CellTallies nD τ sig (HIx 1)) (W : Waits sig (HIx 1))
    {k : ℕ} (hk : k < 12) (off : Fin 2 → ℕ) (inb : ∀ a, off a + S1x512.size a ≤ S12x16384.size a)
    (r : DmaSems sig S_) (ho : off = ![k, base (L 0).val (L 1).val]) (f : S12x16384.Idx → F .f32) :
    iprop(Keep d L t O W ∗ Cell d L k r.sem f)
      ⊢ (wp frame (wpE (defs₀ (F := F)) 𝒱₀ (thr d L) none) Set.univ (put (F := F) L a3 a5 k hk off inb r)
          fun _ => iprop(Keep d L t O W ∗ Cell d L k r.sem (maskT F t)) : sProp 𝕄) := by
  unfold Keep Cell maskBuf
  iintro ⟨⟨⟨%g, %hg, Hb⟩, ⟨%W', %hW', HO⟩, #Hmw⟩, Ho, Hv⟩
  have hset := dstRow_set L (inb := inb) ho
  have hb' : ((thr d L).loc cc0_scratch1 ↦{fullShare} (g : Buf (Elt F) ((thr d L).loc cc0_scratch1)) : sProp 𝕄)
      ⊣⊢ iprop(((srcRow a5 k hk).view.loc (thr d L) ↦[(srcRow a5 k hk).view.set]{fullShare} (g : Buf (Elt F) _))
        ∗ ((srcRow a5 k hk).view.loc (thr d L) ↦[Finset.univ \ (srcRow a5 k hk).view.set]{fullShare} (g : Buf (Elt F) _))) :=
    pointsTo_split_subset (Finset.subset_univ _)
  ihave Hb' := hb'.1 $$ Hb
  icases Hb' with ⟨Hs, Hrest⟩
  have ho' : (oLoc d ↦[oPiece (L 0).val (L 1).val k]{fullShare} (f : Buf (Elt F) (oLoc d)) : sProp 𝕄)
      = ((dstRow a3 off inb).view.loc (thr d L) ↦[(dstRow a3 off inb).view.set]{fullShare} (f : Buf (Elt F) _)) := by
    rw [hset]
  ihave Ho' := (Entails.of_eq ho') $$ Ho
  ihave Hw := (wp_copy d L (srcRow a5 k hk) (dstRow a3 off inb) r.sem (hs := (View.wordExact_bits rfl).reshape _ _)
    (hd := (View.wordExact_bits rfl).reshape _ _) (hT := ⟨Or.inl rfl, trivial⟩)
    (hs' := (View.wordExact_bits rfl).reshape _ _) (hd' := (View.wordExact_bits rfl).reshape _ _)
    fullShare g f O W'
    (by rw [show (dstRow a3 off inb).view.dmaCredit = (dstRow a3 ![0, 0] (by decide)).view.dmaCredit from rfl]; decide)) $$ [Hs Ho' Hv HO]
  · isplitl [Hs]; · iexact Hs
    isplitl [Ho']; · iexact Ho'
    isplitl [Hv]; · iexact Hv
    isplitl [HO]; · iexact HO
    iexact Hmw
  iapply wp_wand $$ Hw
  iintro %_ ⟨Hd, Hs, Hv, HO⟩
  isplitl [Hs Hrest HO]
  · isplitl [Hs Hrest]
    · iexists g
      isplitr
      · ipureintro
        exact hg
      iapply hb'.2
      isplitl [Hs]; · iexact Hs
      iexact Hrest
    isplitl [HO]
    · iexists _
      isplitr
      swap; · iexact HO
      ipureintro
      intro p hp
      rcases Finset.mem_insert.mp hp with hp | hp
      · exact .inr (hp ▸ rfl)
      · exact hW' p hp
    iexact Hmw
  isplitl [Hd]
  swap; · iexact Hv
  have hval : ((dstRow a3 off inb).view.loc (thr d L) ↦[(dstRow a3 off inb).view.set]{fullShare}
      ((dstRow a3 off inb).view.write (Elt F) f ((srcRow a5 k hk).view.read (Elt F) g) Finset.univ) : sProp 𝕄)
      = (oLoc d ↦[oPiece (L 0).val (L 1).val k]{fullShare} (maskT F t : Buf (Elt F) (oLoc d))) := by
    rw [hset]
    refine pointsTo_congr fun i hi => ?_
    rw [← hset] at hi
    obtain ⟨x, -, rfl⟩ := Finset.mem_map.mp hi
    have hx : base (L 0).val (L 1).val + (x 0).val < 16384 := by
      have := base_le L
      have : (x 0).val < 512 := (x 0).isLt
      omega
    rw [View.write_emb_of_mem _ _ (Finset.mem_univ _), View.read_apply, cast_cast, cast_eq, hg _ trivial,
      srcRow_emb hk x, dstRow_emb ho hk x hx]
    rfl
  iapply (Entails.of_eq hval)
  iexact Hd

/-- Two programs one after another, each changing a part of its own. -/
theorem wp_both {I A A' B B' : sProp 𝕄} {p q : TileProg F L PUnit}
    (hp : iprop(I ∗ A) ⊢ wp frame (wpE (defs₀ (F := F)) 𝒱₀ (thr d L) none) Set.univ p fun _ => iprop(I ∗ A'))
    (hq : iprop(I ∗ B) ⊢ wp frame (wpE (defs₀ (F := F)) 𝒱₀ (thr d L) none) Set.univ q fun _ => iprop(I ∗ B')) :
    iprop(I ∗ A ∗ B) ⊢ wp frame (wpE (defs₀ (F := F)) 𝒱₀ (thr d L) none) Set.univ (p >>= fun _ => q)
      fun _ => iprop(I ∗ A' ∗ B') := by
  rw [wp_bind]
  iintro ⟨HI, HA, HB⟩
  ihave Hw := hp $$ [HI HA]
  · isplitl [HI] <;> iassumption
  iapply wp_wand $$ Hw
  iintro %_ ⟨HI, HA⟩
  ihave Hw := hq $$ [HI HB]
  · isplitl [HI] <;> iassumption
  iapply wp_wand $$ Hw
  iintro %_ ⟨HI, HB⟩
  isplitl [HI]; · iexact HI
  isplitl [HA] <;> iassumption

/-- The tile's DMA semaphores, in the order of use. -/
def semOf : Fin 13 → DmaSem sig :=
  ![cc0_scoped0.sem, cc0_scoped1.sem, cc0_scoped2.sem, cc0_scoped3.sem, cc0_scoped4.sem, cc0_scoped5.sem,
    cc0_scoped6.sem, cc0_scoped7.sem, cc0_scoped8.sem, cc0_scoped9.sem, cc0_scoped10.sem, cc0_scoped11.sem,
    cc0_scoped12.sem]

/-- The twelve rows, listed. -/
theorem list12 : (Finset.univ : Finset (Fin 12)) = [0, 1, 2, 3, 4, 5, 6, 7, 8, 9, 10, 11].toFinset := by decide

/-- Writing all the columns out. -/
theorem wp_puts (t : S16384.Idx → BitVec 32) (O : CellTallies nD τ sig (HIx 1)) (W : Waits sig (HIx 1))
    (f : S12x16384.Idx → F .f32) :
    iprop(Keep d L t O W ∗ bigSep Finset.univ fun k : Fin 12 => Cell d L k.val (semOf k.succ) f)
      ⊢ (wp frame (wpE (defs₀ (F := F)) 𝒱₀ (thr d L) none) Set.univ
          (puts (F := F) L a3 a5 cc0_scoped1 cc0_scoped2 cc0_scoped3 cc0_scoped4 cc0_scoped5 cc0_scoped6 cc0_scoped7
            cc0_scoped8 cc0_scoped9 cc0_scoped10 cc0_scoped11 cc0_scoped12)
          fun _ => iprop(Keep d L t O W ∗ bigSep Finset.univ fun k : Fin 12 => Cell d L k.val (semOf k.succ) (maskT F t))
            : sProp 𝕄) := by
  rw [bigSep_univ_eq_bigSepL _ list12 (by decide), bigSep_univ_eq_bigSepL _ list12 (by decide)]
  simp only [bigSepL_cons_cons, bigSepL_singleton]
  exact wp_both d L (wp_put d L t O W _ _ _ _ (k0_off2_eq L) f) <|
    wp_both d L (wp_put d L t O W _ _ _ _ (k0_off3_eq L) f) <|
    wp_both d L (wp_put d L t O W _ _ _ _ (k0_off4_eq L) f) <|
    wp_both d L (wp_put d L t O W _ _ _ _ (k0_off5_eq L) f) <|
    wp_both d L (wp_put d L t O W _ _ _ _ (k0_off6_eq L) f) <|
    wp_both d L (wp_put d L t O W _ _ _ _ (k0_off7_eq L) f) <|
    wp_both d L (wp_put d L t O W _ _ _ _ (k0_off8_eq L) f) <|
    wp_both d L (wp_put d L t O W _ _ _ _ (k0_off9_eq L) f) <|
    wp_both d L (wp_put d L t O W _ _ _ _ (k0_off10_eq L) f) <|
    wp_both d L (wp_put d L t O W _ _ _ _ (k0_off11_eq L) f) <|
    wp_both d L (wp_put d L t O W _ _ _ _ (k0_off12_eq L) f) <|
    wp_put d L t O W _ _ _ _ (k0_off13_eq L) f

/-! ## The tile's own semaphores and buffers -/

/-- Each copy has a semaphore of its own. -/
theorem semOf_injective : Function.Injective semOf := by decide

/-- The tile's semaphores as cells of the machine. -/
def semCell : Fin 13 ↪ GSem nD τ sig where
  toFun k := (thr d L, SemLoc.dma (semOf k))
  inj' a b h := semOf_injective (SemLoc.dma.inj (Prod.ext_iff.mp h).2)

/-- The copies' semaphores are the tile's own, -/
theorem semCell_own : Finset.univ.map (semCell d L) ⊆ ownCells (thr d L) := by
  intro g hg
  obtain ⟨k, -, rfl⟩ := Finset.mem_map.mp hg
  refine mem_ownCells.mpr ⟨rfl, ?_⟩
  have h : ∀ k, (SemLoc.dma (semOf k) : SemLoc sig).isScoped .scVector = true := by decide
  exact h k

/-- so the tile holds each at zero, -/
theorem ownSems0_tile :
    (ownSems0 (thr d L) : sProp 𝕄)
      = iprop(((semVal (thr d L, SemLoc.dma cc0_scoped0.sem) 0)
          ∗ bigSep Finset.univ fun k : Fin 12 => semVal (thr d L, SemLoc.dma (semOf k.succ)) 0)
        ∗ bigSep (ownCells (thr d L) \ Finset.univ.map (semCell d L)) fun g => semVal g 0) := by
  unfold SparseCore.Cfg.ownSems0
  rw [SparseCore.bigSep_sdiff_split' (semCell_own d L), bigSep_map,
    show (Finset.univ : Finset (Fin 13)) = insert 0 (Finset.univ.map (Fin.succEmb 12)) by decide,
    SparseCore.bigSep_insert' (by decide), bigSep_map]
  rfl

/-- and it holds its two scratch buffers. -/
theorem ownBufs_tile :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e)
      (show (cc0_scratch1 : Ref sig .scVector) ≠ cc0_scratch0 by decide),
    SparseCore.Cfg.mem_ownRefs_of_owner (p := Proc.scVector (cV L) (jV L))
      (b := (Proc.scVector (cV L) (jV L)).devRef cc0_scratch1) rfl⟩)]

/-! ## The run -/

/-- The tile's types, and its cells of all rows of the result. -/
def tilePart (c s : ℕ) (t : S16384.Idx → BitVec 32) (f : S12x16384.Idx → F .f32) : sProp 𝕄 :=
  iprop((tLoc d ↦[tPiece c s]{fullShare} (t : Buf (Elt F) (tLoc d)))
    ∗ bigSep Finset.univ fun k : Fin 12 => oLoc d ↦[oPiece c s k.val]{fullShare} (f : Buf (Elt F) (oLoc d)))

/-- A tile's cells are its twelve row pieces. -/
theorem cells_eq (f : S12x16384.Idx → F .f32) :
    (bigSep Finset.univ fun k : Fin 12 => Cell d L k.val (semOf k.succ) f)
      = iprop((bigSep Finset.univ fun k : Fin 12 =>
            (oLoc d ↦[oPiece (L 0).val (L 1).val k.val]{fullShare} (f : Buf (Elt F) (oLoc d)) : sProp 𝕄))
          ∗ bigSep Finset.univ fun k : Fin 12 => semVal (thr d L, SemLoc.dma (semOf k.succ)) 0) :=
  bigSep_sep _ _ _

/-- The tile's run: from its types and its cells of the result, at whatever, to the mask in its cells. -/
theorem tile_body (hF : (K (F := F)).Facts) (t : S16384.Idx → BitVec 32) (f : S12x16384.Idx → F .f32)
    (O : CellTallies nD τ sig (HIx 1)) (W : Waits sig (HIx 1)) (hO : ∀ g, O g none = 0) :
    iprop(levAts (K (F := F)).L (K (F := F)).lev ∗ emp
        ∗ tilePart d (L 0).val (L 1).val t f
        ∗ scopedBufs (thr d L) ∗ scopedSems0 (thr d L) ∗ owes (thr d L) O W)
      ⊢ (wp frame (wpE (defs₀ (F := F)) 𝒱₀ (thr d L) none) Set.univ
          (cc0__sc_body (F := F) L a2 (Memref.isWhole_whole _) a3 (Memref.isWhole_whole _) a4 (Memref.isWhole_whole _)
            a5 (Memref.isWhole_whole _) cc0_scoped0 cc0_scoped1 cc0_scoped2 cc0_scoped3 cc0_scoped4 cc0_scoped5
            cc0_scoped6 cc0_scoped7 cc0_scoped8 cc0_scoped9 cc0_scoped10 cc0_scoped11 cc0_scoped12)
          fun _ => iprop(tilePart d (L 0).val (L 1).val t (maskT F t)
            ∗ scopedBufs (thr d L) ∗ scopedSems0 (thr d L)
            ∗ ∃ W', ⌜∀ p ∈ W', p ∈ W ∨ p.2 = none⌝ ∗ owes (thr d L) O W') : sProp 𝕄) := by
  rw [body_eq]
  rw [(K (F := F)).scopedBufs_V hF d (cV L) (jV L), SparseCore.Cfg.scopedSems0_V (Val := Elt F) d (cV L) (jV L),
    ownSems0_tile, ownBufs_tile]
  unfold tilePart
  rw [wp_bind]
  iintro ⟨#Hlv, -, ⟨Ht, Ho⟩, ⟨⟨%fs, Hs⟩, ⟨%fr, Hr⟩, Hbufs⟩, ⟨⟨Hv0, Hvs⟩, Hsems⟩, HO⟩
  ihave #Hmw := (show levAts (K (F := F)).L (K (F := F)).lev ⊢ Transfers.MayWaits (thr d L) (none : HIx 1) O from
    (K (F := F)).mayWaits_none (thr := thr d L) hO) $$ Hlv
  have ht : (tLoc d ↦[tPiece (L 0).val (L 1).val]{fullShare} (t : Buf (Elt F) (tLoc d)) : sProp 𝕄)
      = ((tView L).view.loc (thr d L) ↦[(tView L).view.set]{fullShare} (t : Buf (Elt F) _)) := by
    rw [tView_set]
  have hs : ((thr d L).loc cc0_scratch0 ↦{fullShare} fs : sProp 𝕄)
      = ((a4).view.loc (thr d L) ↦[(a4).view.set]{fullShare} fs) := by
    rw [show (a4).view.set = Finset.univ from View.set_whole _]
  ihave Ht := (Entails.of_eq ht) $$ Ht
  ihave Hs := (Entails.of_eq hs) $$ Hs
  ihave Hw := (wp_copy d L (tView L) a4 cc0_scoped0.sem (hs := (View.wordExact_bits rfl))
    (hd := (View.wordExact_bits rfl)) (hT := ⟨Or.inl rfl, trivial⟩)
    (hs' := (View.wordExact_bits rfl)) (hd' := (View.wordExact_bits rfl))
    fullShare t fs O W (by decide +revert)) $$ [Ht Hs Hv0 HO]
  · isplitl [Ht]; · iexact Ht
    isplitl [Hs]; · iexact Hs
    isplitl [Hv0]; · iexact Hv0
    isplitl [HO]; · iexact HO
    iexact Hmw
  iapply wp_wand $$ Hw
  iintro %_ ⟨Hs, Ht, Hv0, HO⟩
  have hs' : ((a4).view.loc (thr d L) ↦[(a4).view.set]{fullShare}
      (View.write (Elt F) (a4).view fs ((tView L).view.read (Elt F) t) Finset.univ) : sProp 𝕄)
      = ((thr d L).loc cc0_scratch0 ↦{fullShare} (tileTypes L t : Buf (Elt F) ((thr d L).loc cc0_scratch0))) := by
    rw [show (a4).view.set = Finset.univ from View.set_whole _, View.write_whole_univ]
    rw [show (tView L).view.read (Elt F) t = tileTypes L t from funext (tView_read L t)]
  ihave Hs := (Entails.of_eq hs') $$ Hs
  ihave Ht := (Entails.of_eq ht.symm) $$ Ht
  rw [wp_bind]
  ihave Hw := (wp_groups d L (tileTypes L t) 32 le_rfl) $$ [Hs Hr]
  · isplitl [Hs]; · iexact Hs
    unfold maskBuf
    iexists fr
    isplitr
    · ipureintro
      intro y hy
      exact absurd hy (by omega)
    · iexact Hr
  iapply wp_wand $$ Hw
  iintro %_ ⟨Hs, Hr⟩
  ihave Hw := (wp_puts d L t O W f) $$ [Hr HO Ho Hvs]
  · rw [cells_eq]
    isplitl [Hr HO]
    · unfold Keep
      isplitl [Hr]; · iexact Hr
      isplitl [HO]
      · iexists _
        isplitr
        swap; · iexact HO
        ipureintro
        intro p hp
        rcases Finset.mem_insert.mp hp with hp | hp
        · exact .inr (hp ▸ rfl)
        · exact .inl hp
      iexact Hmw
    isplitl [Ho] <;> iassumption
  iapply wp_wand $$ Hw
  rw [cells_eq]
  unfold Keep maskBuf
  iintro %_ ⟨⟨⟨%g, -, Hr⟩, HO, -⟩, Ho, Hvs⟩
  isplitl [Ht Ho]
  · isplitl [Ht] <;> iassumption
  isplitl [Hs Hr Hbufs]
  · isplitl [Hs]; · iexists _; iexact Hs
    isplitl [Hr]; · iexists _; iexact Hr
    iexact Hbufs
  isplitl [Hv0 Hvs Hsems]
  · isplitr [Hsems]
    · isplitl [Hv0] <;> iassumption
    · iexact Hsems
  iexact HO

end Tile

end Cert.Proof.Run
-- ==== Proof.TcBody.lean ====
/-
  The body of the fused call: from any contents of its 39 windows it runs, keeps the 34 operands and leaves in the five
  results' windows values that are named here, each in terms of the printed kernel's own stages.
-/
module

public import proofs.«01_k».proof.Proof.Setup
public import proofs.«01_k».proof.Proof.Gen.KernelIdeal.Skeleton
public import proofs.«01_k».proof.Proof.Gen.KernelIdeal.Points
public import Idealize.ShloMosaic.Lib.Pipeline.FrameBody

@[expose] public section

noncomputable section

namespace Cert.Proof.Run

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- What the body's windows hold, one entry a window. -/
abbrev Ins (F : FTy → Type) : Type :=
  (w : Fin 39) → (cfg1.win w).block.Idx → Elt F (cfg1.win w).elt

variable (x : Ins F)

/-- The types' one-hot columns. -/
def onehotV : FVec F S5x4096 .f32 := k1_pay2 (x 0)
/-- The types' embeddings, a column a row. -/
def embV : FVec F S16x4096 .f32 := k1_pay3 (x 0) (x 28)
/-- The encoder's last hidden rows. -/
def hidV : FVec F S4096x128 .f32 :=
  k1_pay9 (onehotV x) (embV x) (k1_pay6 (x 0) (x 2) (x 1)) (k1_pay7 (x 0)) (k1_pay8 (x 2) (x 1)) (x 3) (x 4) (x 5) (x 6)
    (x 7) (x 8) (x 9) (x 10)
/-- The codes over the half widths. -/
def codesV : FVec F S4x4096 .f32 :=
  k1_pay11 (hidV x) (x 11) (x 12) (x 13) (x 29) (x 30) (x 31) (x 32)
/-- The indices. -/
def idxV : Vec F S1x4096 .i32 :=
  k1_pay12 (hidV x) (x 11) (x 12) (x 13) (x 29) (x 30) (x 31) (x 32) (x 33)
/-- The quantised rows. -/
def zqV : FVec F S4096x128 .f32 := k1_pay13 (codesV x) (x 14) (x 15)
/-- The class logits. -/
def clsV : FVec F S5x4096 .f32 := k1_pay14 (codesV x) (x 14) (x 15) (x 16) (x 17)
/-- The closedness logits. -/
def iscV : FVec F S2x4096 .f32 := k1_pay15 (codesV x) (x 14) (x 15) (x 18) (x 19)
/-- The decoder's first layer. -/
def dec1V : FVec F S4096x256 .f32 := k1_pay16 (embV x) (codesV x) (x 14) (x 15) (x 20) (x 21)
/-- The reconstruction. -/
def reconV : FVec F S12x4096 .f32 :=
  k1_pay1 (onehotV x)
    (k1_pay17 (onehotV x) (dec1V x) (Scalar.ofBits .f32 0x00000000#32) (x 22) (x 23) (x 24) (x 25) (x 26)) (x 27)
    (constant S12x4096 .f32 0x00000000#32)

/-- A load of a whole buffer through its own view reads what the view reads. -/
theorem readAt_whole {s : Shape} {e : EltTy} (M : Memref sig .tc .vmem s e) (f : M.view.ty.Contents (Elt F))
    (off : Fin s.rank → ℕ) (inb : ∀ a, off a + s.size a ≤ s.size a) (hoff : ∀ a, off a = 0) :
    M.view.readAt (Elt F) (Rect.unit off s.size inb).toLoadRect f = M.view.read (Elt F) f := by
  funext y
  refine congrArg (M.view.read (Elt F) f) ?_
  funext a
  refine Fin.ext ?_
  change off a + 1 * (y a).val = (y a).val
  rw [hoff]
  omega

/-- After one store over a whole buffer, the buffer reads the stored values. -/
theorem read_store_whole {s : Shape} {e : EltTy} (M : Memref sig .tc .vmem s e) (f : M.view.ty.Contents (Elt F))
    (off : Fin s.rank → ℕ) (inb : ∀ a, off a + s.size a ≤ s.size a) (hoff : ∀ a, off a = 0) (v : s.Idx → Elt F e) :
    M.view.read (Elt F) (M.view.writes (Elt F) f [⟨Rect.unit off s.size inb, v⟩]) = v := by
  funext y
  have hy : (Rect.unit off s.size inb).emb y = y := by
    funext a
    refine Fin.ext ?_
    change off a + 1 * (y a).val = (y a).val
    rw [hoff]
    omega
  refine Eq.trans ?_ (View.read_writes_cons_emb M.view f (Rect.unit off s.size inb) v [] y)
  rw [hy]

set_option maxHeartbeats 4000000 in
/-- The body of the fused call, from windows that hold anything: it leaves the operands' windows as they were and puts in
the five results' windows the values above. -/
theorem tc_run (d : Dev nD) (i : grid1.Coords) (x : Ins F)
    (M1 : Memref sig .tc .vmem S1x4096 .i32) (h1 : M1.IsWhole) (M2 : Memref sig .tc .vmem S12x4096 .f32) (h2 :
    M2.IsWhole) (M3 : Memref sig .tc .vmem S5x12x32 .f32) (h3 : M3.IsWhole) (M4 : Memref sig .tc .vmem S5x32 .f32) (h4
    : M4.IsWhole) (M5 : Memref sig .tc .vmem S48x512 .f32) (h5 : M5.IsWhole) (M6 : Memref sig .tc .vmem S512 .f32) (h6
    : M6.IsWhole) (M7 : Memref sig .tc .vmem S256x512 .f32) (h7 : M7.IsWhole) (M8 : Memref sig .tc .vmem S256 .f32)
    (h8 : M8.IsWhole) (M9 : Memref sig .tc .vmem S128x256 .f32) (h9 : M9.IsWhole) (M10 : Memref sig .tc .vmem S128
    .f32) (h10 : M10.IsWhole) (M11 : Memref sig .tc .vmem S128x128 .f32) (h11 : M11.IsWhole) (M12 : Memref sig .tc
    .vmem S128 .f32) (h12 : M12.IsWhole) (M13 : Memref sig .tc .vmem S4x128 .f32) (h13 : M13.IsWhole) (M14 : Memref
    sig .tc .vmem S4 .f32) (h14 : M14.IsWhole) (M15 : Memref sig .tc .vmem S4x128 .f32) (h15 : M15.IsWhole) (M16 :
    Memref sig .tc .vmem S128 .f32) (h16 : M16.IsWhole) (M17 : Memref sig .tc .vmem S5x128 .f32) (h17 : M17.IsWhole)
    (M18 : Memref sig .tc .vmem S5 .f32) (h18 : M18.IsWhole) (M19 : Memref sig .tc .vmem S2x128 .f32) (h19 :
    M19.IsWhole) (M20 : Memref sig .tc .vmem S2 .f32) (h20 : M20.IsWhole) (M21 : Memref sig .tc .vmem S144x256 .f32)
    (h21 : M21.IsWhole) (M22 : Memref sig .tc .vmem S256 .f32) (h22 : M22.IsWhole) (M23 : Memref sig .tc .vmem
    S512x256 .f32) (h23 : M23.IsWhole) (M24 : Memref sig .tc .vmem S512 .f32) (h24 : M24.IsWhole) (M25 : Memref sig
    .tc .vmem S32x512 .f32) (h25 : M25.IsWhole) (M26 : Memref sig .tc .vmem S32 .f32) (h26 : M26.IsWhole) (M27 :
    Memref sig .tc .vmem S5x12x32 .f32) (h27 : M27.IsWhole) (M28 : Memref sig .tc .vmem S5x12 .f32) (h28 :
    M28.IsWhole) (M29 : Memref sig .tc .vmem S5x16 .f32) (h29 : M29.IsWhole) (M30 : Memref sig .tc .vmem S4x1 .f32)
    (h30 : M30.IsWhole) (M31 : Memref sig .tc .vmem S4x1 .f32) (h31 : M31.IsWhole) (M32 : Memref sig .tc .vmem S4x1
    .f32) (h32 : M32.IsWhole) (M33 : Memref sig .tc .vmem S4x1 .f32) (h33 : M33.IsWhole) (M34 : Memref sig .tc .vmem
    S4x1 .f32) (h34 : M34.IsWhole) (M35 : Memref sig .tc .vmem S12x4096 .f32) (h35 : M35.IsWhole) (M36 : Memref sig
    .tc .vmem S5x4096 .f32) (h36 : M36.IsWhole) (M37 : Memref sig .tc .vmem S2x4096 .f32) (h37 : M37.IsWhole) (M38 :
    Memref sig .tc .vmem S4096x128 .f32) (h38 : M38.IsWhole) (M39 : Memref sig .tc .vmem S1x4096 .i32) (h39 :
    M39.IsWhole)
    (E : Set ℕ) :
    iprop(owns (d.tc : Thread nD τ) M1 fullShare (x 0) ∗ owns (d.tc : Thread nD τ) M2 fullShare (x 1) ∗ owns (d.tc : Thread nD τ) M3 fullShare (x 2) ∗ owns (d.tc : Thread nD τ) M4 fullShare (x 3) ∗ owns (d.tc : Thread nD τ) M5 fullShare (x 4) ∗ owns (d.tc : Thread nD τ) M6 fullShare (x 5) ∗ owns (d.tc : Thread nD τ) M7 fullShare (x 6) ∗ owns (d.tc : Thread nD τ) M8 fullShare (x 7) ∗ owns (d.tc : Thread nD τ) M9 fullShare (x 8) ∗ owns (d.tc : Thread nD τ) M10 fullShare (x 9) ∗ owns (d.tc : Thread nD τ) M11 fullShare (x 10) ∗ owns (d.tc : Thread nD τ) M12 fullShare (x 11) ∗ owns (d.tc : Thread nD τ) M13 fullShare (x 12) ∗ owns (d.tc : Thread nD τ) M14 fullShare (x 13) ∗ owns (d.tc : Thread nD τ) M15 fullShare (x 14) ∗ owns (d.tc : Thread nD τ) M16 fullShare (x 15) ∗ owns (d.tc : Thread nD τ) M17 fullShare (x 16) ∗ owns (d.tc : Thread nD τ) M18 fullShare (x 17) ∗ owns (d.tc : Thread nD τ) M19 fullShare (x 18) ∗ owns (d.tc : Thread nD τ) M20 fullShare (x 19) ∗ owns (d.tc : Thread nD τ) M21 fullShare (x 20) ∗ owns (d.tc : Thread nD τ) M22 fullShare (x 21) ∗ owns (d.tc : Thread nD τ) M23 fullShare (x 22) ∗ owns (d.tc : Thread nD τ) M24 fullShare (x 23) ∗ owns (d.tc : Thread nD τ) M25 fullShare (x 24) ∗ owns (d.tc : Thread nD τ) M26 fullShare (x 25) ∗ owns (d.tc : Thread nD τ) M27 fullShare (x 26) ∗ owns (d.tc : Thread nD τ) M28 fullShare (x 27) ∗ owns (d.tc : Thread nD τ) M29 fullShare (x 28) ∗ owns (d.tc : Thread nD τ) M30 fullShare (x 29) ∗ owns (d.tc : Thread nD τ) M31 fullShare (x 30) ∗ owns (d.tc : Thread nD τ) M32 fullShare (x 31) ∗ owns (d.tc : Thread nD τ) M33 fullShare (x 32) ∗ owns (d.tc : Thread nD τ) M34 fullShare (x 33)
      ∗ (∃ y, owns (d.tc : Thread nD τ) M35 fullShare y) ∗ (∃ y, owns (d.tc : Thread nD τ) M36 fullShare y) ∗ (∃ y, owns (d.tc : Thread nD τ) M37 fullShare y) ∗ (∃ y, owns (d.tc : Thread nD τ) M38 fullShare y) ∗ (∃ y, owns (d.tc : Thread nD τ) M39 fullShare y))
      ⊢ (wp frame (wpE (defs₀ (F := F)) 𝒱₀ (d.tc : Thread nD τ) none) E
          (cc1__tc_body (F := F) i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 M35 h35 M36 h36 M37 h37 M38 h38 M39 h39)
          fun _ => iprop(owns (d.tc : Thread nD τ) M1 fullShare (x 0) ∗ owns (d.tc : Thread nD τ) M2 fullShare (x 1) ∗ owns (d.tc : Thread nD τ) M3 fullShare (x 2) ∗ owns (d.tc : Thread nD τ) M4 fullShare (x 3) ∗ owns (d.tc : Thread nD τ) M5 fullShare (x 4) ∗ owns (d.tc : Thread nD τ) M6 fullShare (x 5) ∗ owns (d.tc : Thread nD τ) M7 fullShare (x 6) ∗ owns (d.tc : Thread nD τ) M8 fullShare (x 7) ∗ owns (d.tc : Thread nD τ) M9 fullShare (x 8) ∗ owns (d.tc : Thread nD τ) M10 fullShare (x 9) ∗ owns (d.tc : Thread nD τ) M11 fullShare (x 10) ∗ owns (d.tc : Thread nD τ) M12 fullShare (x 11) ∗ owns (d.tc : Thread nD τ) M13 fullShare (x 12) ∗ owns (d.tc : Thread nD τ) M14 fullShare (x 13) ∗ owns (d.tc : Thread nD τ) M15 fullShare (x 14) ∗ owns (d.tc : Thread nD τ) M16 fullShare (x 15) ∗ owns (d.tc : Thread nD τ) M17 fullShare (x 16) ∗ owns (d.tc : Thread nD τ) M18 fullShare (x 17) ∗ owns (d.tc : Thread nD τ) M19 fullShare (x 18) ∗ owns (d.tc : Thread nD τ) M20 fullShare (x 19) ∗ owns (d.tc : Thread nD τ) M21 fullShare (x 20) ∗ owns (d.tc : Thread nD τ) M22 fullShare (x 21) ∗ owns (d.tc : Thread nD τ) M23 fullShare (x 22) ∗ owns (d.tc : Thread nD τ) M24 fullShare (x 23) ∗ owns (d.tc : Thread nD τ) M25 fullShare (x 24) ∗ owns (d.tc : Thread nD τ) M26 fullShare (x 25) ∗ owns (d.tc : Thread nD τ) M27 fullShare (x 26) ∗ owns (d.tc : Thread nD τ) M28 fullShare (x 27) ∗ owns (d.tc : Thread nD τ) M29 fullShare (x 28) ∗ owns (d.tc : Thread nD τ) M30 fullShare (x 29) ∗ owns (d.tc : Thread nD τ) M31 fullShare (x 30) ∗ owns (d.tc : Thread nD τ) M32 fullShare (x 31) ∗ owns (d.tc : Thread nD τ) M33 fullShare (x 32) ∗ owns (d.tc : Thread nD τ) M34 fullShare (x 33)
      ∗ owns (d.tc : Thread nD τ) M35 fullShare (reconV x) ∗ owns (d.tc : Thread nD τ) M36 fullShare (clsV x) ∗ owns (d.tc : Thread nD τ) M37 fullShare (iscV x) ∗ owns (d.tc : Thread nD τ) M38 fullShare (zqV x) ∗ owns (d.tc : Thread nD τ) M39 fullShare (idxV x)) : sProp 𝕄) := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩, ⟨%f23, %e23, H23⟩, ⟨%f24, %e24, H24⟩, ⟨%f25, %e25, H25⟩, ⟨%f26, %e26, H26⟩, ⟨%f27, %e27, H27⟩, ⟨%f28, %e28, H28⟩, ⟨%f29, %e29, H29⟩, ⟨%f30, %e30, H30⟩, ⟨%f31, %e31, H31⟩, ⟨%f32, %e32, H32⟩, ⟨%f33, %e33, H33⟩, ⟨%f34, %e34, H34⟩, ⟨%y35, %f35, -, H35⟩, ⟨%y36, %f36, -, H36⟩, ⟨%y37, %f37, -, H37⟩, ⟨%y38, %f38, -, H38⟩, ⟨%y39, %f39, -, H39⟩⟩
  simp only [cc1__tc_body_eq_skeleton]
  sl_exec!
  sl_step
  have l1 : M1.view.readAt (Elt F) (Rect.unit ![0, 0] S1x4096.size inb_S1x4096_S1x4096_0_0).toLoadRect f1 = x 0 :=
    (readAt_whole M1 f1 _ _ (by decide)).trans e1
  have l2 : M2.view.readAt (Elt F) (Rect.unit ![0, 0] S12x4096.size inb_S12x4096_S12x4096_0_0).toLoadRect f2 = x 1 :=
    (readAt_whole M2 f2 _ _ (by decide)).trans e2
  have l3 : M3.view.readAt (Elt F) (Rect.unit ![0, 0, 0] S5x12x32.size inb_S5x12x32_S5x12x32_0_0_0).toLoadRect f3 = x 2 :=
    (readAt_whole M3 f3 _ _ (by decide)).trans e3
  have l4 : M4.view.readAt (Elt F) (Rect.unit ![0, 0] S5x32.size inb_S5x32_S5x32_0_0).toLoadRect f4 = x 3 :=
    (readAt_whole M4 f4 _ _ (by decide)).trans e4
  have l5 : M5.view.readAt (Elt F) (Rect.unit ![0, 0] S48x512.size inb_S48x512_S48x512_0_0).toLoadRect f5 = x 4 :=
    (readAt_whole M5 f5 _ _ (by decide)).trans e5
  have l6 : M6.view.readAt (Elt F) (Rect.unit ![0] S512.size inb_S512_S512_0).toLoadRect f6 = x 5 :=
    (readAt_whole M6 f6 _ _ (by decide)).trans e6
  have l7 : M7.view.readAt (Elt F) (Rect.unit ![0, 0] S256x512.size inb_S256x512_S256x512_0_0).toLoadRect f7 = x 6 :=
    (readAt_whole M7 f7 _ _ (by decide)).trans e7
  have l8 : M8.view.readAt (Elt F) (Rect.unit ![0] S256.size inb_S256_S256_0).toLoadRect f8 = x 7 :=
    (readAt_whole M8 f8 _ _ (by decide)).trans e8
  have l9 : M9.view.readAt (Elt F) (Rect.unit ![0, 0] S128x256.size inb_S128x256_S128x256_0_0).toLoadRect f9 = x 8 :=
    (readAt_whole M9 f9 _ _ (by decide)).trans e9
  have l10 : M10.view.readAt (Elt F) (Rect.unit ![0] S128.size inb_S128_S128_0).toLoadRect f10 = x 9 :=
    (readAt_whole M10 f10 _ _ (by decide)).trans e10
  have l11 : M11.view.readAt (Elt F) (Rect.unit ![0, 0] S128x128.size inb_S128x128_S128x128_0_0).toLoadRect f11 = x 10 :=
    (readAt_whole M11 f11 _ _ (by decide)).trans e11
  have l12 : M12.view.readAt (Elt F) (Rect.unit ![0] S128.size inb_S128_S128_0).toLoadRect f12 = x 11 :=
    (readAt_whole M12 f12 _ _ (by decide)).trans e12
  have l13 : M13.view.readAt (Elt F) (Rect.unit ![0, 0] S4x128.size inb_S4x128_S4x128_0_0).toLoadRect f13 = x 12 :=
    (readAt_whole M13 f13 _ _ (by decide)).trans e13
  have l14 : M14.view.readAt (Elt F) (Rect.unit ![0] S4.size inb_S4_S4_0).toLoadRect f14 = x 13 :=
    (readAt_whole M14 f14 _ _ (by decide)).trans e14
  have l15 : M15.view.readAt (Elt F) (Rect.unit ![0, 0] S4x128.size inb_S4x128_S4x128_0_0).toLoadRect f15 = x 14 :=
    (readAt_whole M15 f15 _ _ (by decide)).trans e15
  have l16 : M16.view.readAt (Elt F) (Rect.unit ![0] S128.size inb_S128_S128_0).toLoadRect f16 = x 15 :=
    (readAt_whole M16 f16 _ _ (by decide)).trans e16
  have l17 : M17.view.readAt (Elt F) (Rect.unit ![0, 0] S5x128.size inb_S5x128_S5x128_0_0).toLoadRect f17 = x 16 :=
    (readAt_whole M17 f17 _ _ (by decide)).trans e17
  have l18 : M18.view.readAt (Elt F) (Rect.unit ![0] S5.size inb_S5_S5_0).toLoadRect f18 = x 17 :=
    (readAt_whole M18 f18 _ _ (by decide)).trans e18
  have l19 : M19.view.readAt (Elt F) (Rect.unit ![0, 0] S2x128.size inb_S2x128_S2x128_0_0).toLoadRect f19 = x 18 :=
    (readAt_whole M19 f19 _ _ (by decide)).trans e19
  have l20 : M20.view.readAt (Elt F) (Rect.unit ![0] S2.size inb_S2_S2_0).toLoadRect f20 = x 19 :=
    (readAt_whole M20 f20 _ _ (by decide)).trans e20
  have l21 : M21.view.readAt (Elt F) (Rect.unit ![0, 0] S144x256.size inb_S144x256_S144x256_0_0).toLoadRect f21 = x 20 :=
    (readAt_whole M21 f21 _ _ (by decide)).trans e21
  have l22 : M22.view.readAt (Elt F) (Rect.unit ![0] S256.size inb_S256_S256_0).toLoadRect f22 = x 21 :=
    (readAt_whole M22 f22 _ _ (by decide)).trans e22
  have l23 : M23.view.readAt (Elt F) (Rect.unit ![0, 0] S512x256.size inb_S512x256_S512x256_0_0).toLoadRect f23 = x 22 :=
    (readAt_whole M23 f23 _ _ (by decide)).trans e23
  have l24 : M24.view.readAt (Elt F) (Rect.unit ![0] S512.size inb_S512_S512_0).toLoadRect f24 = x 23 :=
    (readAt_whole M24 f24 _ _ (by decide)).trans e24
  have l25 : M25.view.readAt (Elt F) (Rect.unit ![0, 0] S32x512.size inb_S32x512_S32x512_0_0).toLoadRect f25 = x 24 :=
    (readAt_whole M25 f25 _ _ (by decide)).trans e25
  have l26 : M26.view.readAt (Elt F) (Rect.unit ![0] S32.size inb_S32_S32_0).toLoadRect f26 = x 25 :=
    (readAt_whole M26 f26 _ _ (by decide)).trans e26
  have l27 : M27.view.readAt (Elt F) (Rect.unit ![0, 0, 0] S5x12x32.size inb_S5x12x32_S5x12x32_0_0_0).toLoadRect f27 = x 26 :=
    (readAt_whole M27 f27 _ _ (by decide)).trans e27
  have l28 : M28.view.readAt (Elt F) (Rect.unit ![0, 0] S5x12.size inb_S5x12_S5x12_0_0).toLoadRect f28 = x 27 :=
    (readAt_whole M28 f28 _ _ (by decide)).trans e28
  have l29 : M29.view.readAt (Elt F) (Rect.unit ![0, 0] S5x16.size inb_S5x16_S5x16_0_0).toLoadRect f29 = x 28 :=
    (readAt_whole M29 f29 _ _ (by decide)).trans e29
  have l30 : M30.view.readAt (Elt F) (Rect.unit ![0, 0] S4x1.size inb_S4x1_S4x1_0_0).toLoadRect f30 = x 29 :=
    (readAt_whole M30 f30 _ _ (by decide)).trans e30
  have l31 : M31.view.readAt (Elt F) (Rect.unit ![0, 0] S4x1.size inb_S4x1_S4x1_0_0).toLoadRect f31 = x 30 :=
    (readAt_whole M31 f31 _ _ (by decide)).trans e31
  have l32 : M32.view.readAt (Elt F) (Rect.unit ![0, 0] S4x1.size inb_S4x1_S4x1_0_0).toLoadRect f32 = x 31 :=
    (readAt_whole M32 f32 _ _ (by decide)).trans e32
  have l33 : M33.view.readAt (Elt F) (Rect.unit ![0, 0] S4x1.size inb_S4x1_S4x1_0_0).toLoadRect f33 = x 32 :=
    (readAt_whole M33 f33 _ _ (by decide)).trans e33
  have l34 : M34.view.readAt (Elt F) (Rect.unit ![0, 0] S4x1.size inb_S4x1_S4x1_0_0).toLoadRect f34 = x 33 :=
    (readAt_whole M34 f34 _ _ (by decide)).trans e34
  isplitl [H1]
  · iexists _
    isplitr
    swap; · iexact H1
    ipureintro
    exact e1
  isplitl [H2]
  · iexists _
    isplitr
    swap; · iexact H2
    ipureintro
    exact e2
  isplitl [H3]
  · iexists _
    isplitr
    swap; · iexact H3
    ipureintro
    exact e3
  isplitl [H4]
  · iexists _
    isplitr
    swap; · iexact H4
    ipureintro
    exact e4
  isplitl [H5]
  · iexists _
    isplitr
    swap; · iexact H5
    ipureintro
    exact e5
  isplitl [H6]
  · iexists _
    isplitr
    swap; · iexact H6
    ipureintro
    exact e6
  isplitl [H7]
  · iexists _
    isplitr
    swap; · iexact H7
    ipureintro
    exact e7
  isplitl [H8]
  · iexists _
    isplitr
    swap; · iexact H8
    ipureintro
    exact e8
  isplitl [H9]
  · iexists _
    isplitr
    swap; · iexact H9
    ipureintro
    exact e9
  isplitl [H10]
  · iexists _
    isplitr
    swap; · iexact H10
    ipureintro
    exact e10
  isplitl [H11]
  · iexists _
    isplitr
    swap; · iexact H11
    ipureintro
    exact e11
  isplitl [H12]
  · iexists _
    isplitr
    swap; · iexact H12
    ipureintro
    exact e12
  isplitl [H13]
  · iexists _
    isplitr
    swap; · iexact H13
    ipureintro
    exact e13
  isplitl [H14]
  · iexists _
    isplitr
    swap; · iexact H14
    ipureintro
    exact e14
  isplitl [H15]
  · iexists _
    isplitr
    swap; · iexact H15
    ipureintro
    exact e15
  isplitl [H16]
  · iexists _
    isplitr
    swap; · iexact H16
    ipureintro
    exact e16
  isplitl [H17]
  · iexists _
    isplitr
    swap; · iexact H17
    ipureintro
    exact e17
  isplitl [H18]
  · iexists _
    isplitr
    swap; · iexact H18
    ipureintro
    exact e18
  isplitl [H19]
  · iexists _
    isplitr
    swap; · iexact H19
    ipureintro
    exact e19
  isplitl [H20]
  · iexists _
    isplitr
    swap; · iexact H20
    ipureintro
    exact e20
  isplitl [H21]
  · iexists _
    isplitr
    swap; · iexact H21
    ipureintro
    exact e21
  isplitl [H22]
  · iexists _
    isplitr
    swap; · iexact H22
    ipureintro
    exact e22
  isplitl [H23]
  · iexists _
    isplitr
    swap; · iexact H23
    ipureintro
    exact e23
  isplitl [H24]
  · iexists _
    isplitr
    swap; · iexact H24
    ipureintro
    exact e24
  isplitl [H25]
  · iexists _
    isplitr
    swap; · iexact H25
    ipureintro
    exact e25
  isplitl [H26]
  · iexists _
    isplitr
    swap; · iexact H26
    ipureintro
    exact e26
  isplitl [H27]
  · iexists _
    isplitr
    swap; · iexact H27
    ipureintro
    exact e27
  isplitl [H28]
  · iexists _
    isplitr
    swap; · iexact H28
    ipureintro
    exact e28
  isplitl [H29]
  · iexists _
    isplitr
    swap; · iexact H29
    ipureintro
    exact e29
  isplitl [H30]
  · iexists _
    isplitr
    swap; · iexact H30
    ipureintro
    exact e30
  isplitl [H31]
  · iexists _
    isplitr
    swap; · iexact H31
    ipureintro
    exact e31
  isplitl [H32]
  · iexists _
    isplitr
    swap; · iexact H32
    ipureintro
    exact e32
  isplitl [H33]
  · iexists _
    isplitr
    swap; · iexact H33
    ipureintro
    exact e33
  isplitl [H34]
  · iexists _
    isplitr
    swap; · iexact H34
    ipureintro
    exact e34
  isplitl [H35]
  · iexists _
    isplitr
    swap; · iexact H35
    ipureintro
    refine (read_store_whole M35 _ _ _ (by decide) _).trans ?_
    sl_unfold_run_names
    rw [l1, l2, l3, l4, l5, l6, l7, l8, l9, l10, l11, l12, l13, l14, l15, l16, l21, l22, l23, l24, l25, l26, l27, l28, l29, l30, l31, l32, l33]
    rfl
  isplitl [H36]
  · iexists _
    isplitr
    swap; · iexact H36
    ipureintro
    refine (read_store_whole M36 _ _ _ (by decide) _).trans ?_
    sl_unfold_run_names
    rw [l1, l2, l3, l4, l5, l6, l7, l8, l9, l10, l11, l12, l13, l14, l15, l16, l17, l18, l29, l30, l31, l32, l33]
    rfl
  isplitl [H37]
  · iexists _
    isplitr
    swap; · iexact H37
    ipureintro
    refine (read_store_whole M37 _ _ _ (by decide) _).trans ?_
    sl_unfold_run_names
    rw [l1, l2, l3, l4, l5, l6, l7, l8, l9, l10, l11, l12, l13, l14, l15, l16, l19, l20, l29, l30, l31, l32, l33]
    rfl
  isplitl [H38]
  · iexists _
    isplitr
    swap; · iexact H38
    ipureintro
    refine (read_store_whole M38 _ _ _ (by decide) _).trans ?_
    sl_unfold_run_names
    rw [l1, l2, l3, l4, l5, l6, l7, l8, l9, l10, l11, l12, l13, l14, l15, l16, l29, l30, l31, l32, l33]
    rfl
  iexists _
  isplitr
  swap; · iexact H39
  ipureintro
  refine (read_store_whole M39 _ _ _ (by decide) _).trans ?_
  sl_unfold_run_names
  rw [l1, l2, l3, l4, l5, l6, l7, l8, l9, l10, l11, l12, l13, l14, l29, l30, l31, l32, l33, l34]
  rfl

end Cert.Proof.Run
-- ==== Proof.TcRegion.lean ====
/-
  The fused kernel's region: what its windows hold at each point of the grid, the library's body obligation from the
  body's run, and the region's record over the TensorCore's buffers held at any valuation.
-/
module

public import proofs.«01_k».proof.Proof.TcBody
public import proofs.«01_k».proof.Proof.Gen.KernelIdeal.Launch
public import Idealize.ShloMosaic.Lib.Pipeline.RegionArraysS

@[expose] public section

noncomputable section

namespace Cert.Proof.Run

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F] [∀ e, Nonempty (Elt F e)]

local notation "𝕄" => MT nD τ sig (HIx 1) (Elt F) ℕ UU ℕ

variable (V : Valuation τ sig (Elt F))

/-- The block of window `w`'s array that the fetch at point `t` stages, the arrays held at `V`. -/
def insAt (t : Fin cfg1.N) : Ins F := fun w =>
  (cfg1.win w).fill (cfg1.grid.coords t) (fun _ => Classical.arbitrary _)
    (((cfg1.win w).blk t).view.read (Elt F) (V (Proc.devRef .tc (Pipeline.arrRef spec1 w))))

/-- What the staging buffers hold after the body at point `t`: an input its block, an output what the body stores. -/
def afterAt (t : Fin cfg1.N) : Ins F :=
  Function.update (Function.update (Function.update (Function.update (Function.update (insAt V t)
    34 (reconV (insAt V t))) 35 (clsV (insAt V t))) 36 (iscV (insAt V t))) 37 (zqV (insAt V t))) 38 (idxV (insAt V t))

/-- The region's proof data at the entry valuation `V`: nothing owed, whole shares. -/
def dat (c : Dev nD) : Dat τ (Elt F) (HIx 1) ℕ UU ℕ cfg1 c where
  A w := V (Proc.devRef .tc (Pipeline.arrRef spec1 w))
  after w t := afterAt V t w
  Φ _ := Pipeline.scopedRest (Ix := HIx 1) (Name := ℕ) (U := UU) (Lvl := ℕ) (Val := Elt F) spec1 c
  q _ := fullShare
  owed _ := 0

omit [FloatOps F] in
/-- The windows are uncut: a fetch fills the whole staging buffer. -/
theorem fill_eq (w : Fin 39) (t : Fin cfg1.N) (d d' : (cfg1.win w).block.Idx → Elt F (cfg1.win w).elt)
    (f : ((cfg1.win w).xblock (cfg1.grid.coords t)).Idx → Elt F (cfg1.win w).elt) :
    (cfg1.win w).fill (cfg1.grid.coords t) d f = (cfg1.win w).fill (cfg1.grid.coords t) d' f := by
  revert d d' f
  fin_cases w <;> exact fun _ _ _ => rfl

/-- The windows that the body writes are the last five. -/
theorem ne_of_in : ∀ w : Fin 39, (cfg1.win w).isOut = false → w ≠ 34 ∧ w ≠ 35 ∧ w ≠ 36 ∧ w ≠ 37 ∧ w ≠ 38 := by
  intro w
  fin_cases w <;> first | exact fun _ => by decide | exact fun h => nomatch h

/-- An input's buffer holds its block after the body too. -/
theorem afterAt_in (t : Fin cfg1.N) (w : Fin 39) (hw : (cfg1.win w).isOut = false) : afterAt V t w = insAt V t w := by
  obtain ⟨h1, h2, h3, h4, h5⟩ := ne_of_in w hw
  unfold afterAt
  rw [Function.update_of_ne h5, Function.update_of_ne h4, Function.update_of_ne h3, Function.update_of_ne h2,
    Function.update_of_ne h1]

/-- An input's buffer holds its block when the body runs. -/
theorem before_in (c : Dev nD) (t : Fin cfg1.N) (w : Fin 39) (hw : (cfg1.win w).isOut = false)
    (d : (cfg1.win w).block.Idx → Elt F (cfg1.win w).elt) : (dat V c).before w t d = insAt V t w := by
  refine ((dat V c).before_in_eq_fetched w hw (fun _ => rfl) ?_ ?_ t d).trans (fill_eq w t _ _ _)
  · revert w
    intro w hw _
    fin_cases w <;> exact fun _ _ _ => rfl
  · intro t
    show (cfg1.win w).cut _ (afterAt V t w) = _
    rw [afterAt_in V t w hw]
    exact (cfg1.win w).cut_fill _ _ _

/-- The body at point `t`, from the staging buffers as the pipeline hands them over to what they hold after it. -/
theorem body_run (c : Dev nD) (t : Fin cfg1.N) :
    (bigSep Finset.univ fun w : Fin 39 => iprop(∃ d, owns (c.tc : Thread nD τ) ((cfg1.win w).stage (cfg1.slots t w)) fullShare ((dat V c).before w t d)) : sProp 𝕄)
      ⊢ wp frame (wpE (defs₀ (F := F)) 𝒱₀ c.tc none) Set.univ (bodyAt1 t)
          fun _ => bigSep Finset.univ fun w : Fin 39 => owns (c.tc : Thread nD τ) ((cfg1.win w).stage (cfg1.slots t w)) fullShare (afterAt V t w) := by
  have pre : (bigSep Finset.univ fun w : Fin 39 => iprop(∃ d, owns (c.tc : Thread nD τ) ((cfg1.win w).stage (cfg1.slots t w)) fullShare ((dat V c).before w t d)) : sProp 𝕄)
      ⊢ bigSep Finset.univ fun w : Fin 39 => cond (cfg1.win w).isOut
          iprop(∃ y, owns (c.tc : Thread nD τ) ((cfg1.win w).stage (cfg1.slots t w)) fullShare y)
          (owns (c.tc : Thread nD τ) ((cfg1.win w).stage (cfg1.slots t w)) fullShare (insAt V t w)) := by
    refine bigSep_mono fun w _ => ?_
    cases hw : (cfg1.win w).isOut
    · show iprop(∃ d, owns (c.tc : Thread nD τ) ((cfg1.win w).stage (cfg1.slots t w)) fullShare ((dat V c).before w t d))
        ⊢ owns (c.tc : Thread nD τ) ((cfg1.win w).stage (cfg1.slots t w)) fullShare (insAt V t w)
      iintro ⟨%d, H⟩
      ihave H' := (Entails.of_eq (congrArg (owns (c.tc : Thread nD τ) ((cfg1.win w).stage (cfg1.slots t w)) fullShare)
        (before_in V c t w hw d))) $$ H
      iexact H'
    · show iprop(∃ d, owns (c.tc : Thread nD τ) ((cfg1.win w).stage (cfg1.slots t w)) fullShare ((dat V c).before w t d))
        ⊢ iprop(∃ y, owns (c.tc : Thread nD τ) ((cfg1.win w).stage (cfg1.slots t w)) fullShare y)
      iintro ⟨%d, H⟩
      iexists _
      iexact H
  refine pre.trans ?_
  have h := tc_run c (grid1.coords t) (insAt V t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (st1_8 t) (hstage1_8 ((cfg1.slots t 8).cast nbuf1_8)) (st1_9 t) (hstage1_9 ((cfg1.slots t 9).cast nbuf1_9)) (st1_10 t) (hstage1_10 ((cfg1.slots t 10).cast nbuf1_10)) (st1_11 t) (hstage1_11 ((cfg1.slots t 11).cast nbuf1_11)) (st1_12 t) (hstage1_12 ((cfg1.slots t 12).cast nbuf1_12)) (st1_13 t) (hstage1_13 ((cfg1.slots t 13).cast nbuf1_13)) (st1_14 t) (hstage1_14 ((cfg1.slots t 14).cast nbuf1_14)) (st1_15 t) (hstage1_15 ((cfg1.slots t 15).cast nbuf1_15)) (st1_16 t) (hstage1_16 ((cfg1.slots t 16).cast nbuf1_16)) (st1_17 t) (hstage1_17 ((cfg1.slots t 17).cast nbuf1_17)) (st1_18 t) (hstage1_18 ((cfg1.slots t 18).cast nbuf1_18)) (st1_19 t) (hstage1_19 ((cfg1.slots t 19).cast nbuf1_19)) (st1_20 t) (hstage1_20 ((cfg1.slots t 20).cast nbuf1_20)) (st1_21 t) (hstage1_21 ((cfg1.slots t 21).cast nbuf1_21)) (st1_22 t) (hstage1_22 ((cfg1.slots t 22).cast nbuf1_22)) (st1_23 t) (hstage1_23 ((cfg1.slots t 23).cast nbuf1_23)) (st1_24 t) (hstage1_24 ((cfg1.slots t 24).cast nbuf1_24)) (st1_25 t) (hstage1_25 ((cfg1.slots t 25).cast nbuf1_25)) (st1_26 t) (hstage1_26 ((cfg1.slots t 26).cast nbuf1_26)) (st1_27 t) (hstage1_27 ((cfg1.slots t 27).cast nbuf1_27)) (st1_28 t) (hstage1_28 ((cfg1.slots t 28).cast nbuf1_28)) (st1_29 t) (hstage1_29 ((cfg1.slots t 29).cast nbuf1_29)) (st1_30 t) (hstage1_30 ((cfg1.slots t 30).cast nbuf1_30)) (st1_31 t) (hstage1_31 ((cfg1.slots t 31).cast nbuf1_31)) (st1_32 t) (hstage1_32 ((cfg1.slots t 32).cast nbuf1_32)) (st1_33 t) (hstage1_33 ((cfg1.slots t 33).cast nbuf1_33)) (st1_34 t) (hstage1_34 ((cfg1.slots t 34).cast nbuf1_34)) (st1_35 t) (hstage1_35 ((cfg1.slots t 35).cast nbuf1_35)) (st1_36 t) (hstage1_36 ((cfg1.slots t 36).cast nbuf1_36)) (st1_37 t) (hstage1_37 ((cfg1.slots t 37).cast nbuf1_37)) (st1_38 t) (hstage1_38 ((cfg1.slots t 38).cast nbuf1_38)) Set.univ
  rw [bigSep_W1]
  refine BI.Entails.trans ?_ (h.trans (wp_mono frame _ _ fun _ => ?_))
  · exact BI.Entails.refl _
  · rw [bigSep_W1]
    exact BI.Entails.refl _

/-- The library's body obligation. -/
theorem body_obligation (c : Dev nD) : Pipeline.BodyObligation (dat V c) (defs₀ (F := F)) 𝒱₀ (none : HIx 1) Set.univ := fun t => by
  rw [show (dat V c).Φ t.succ = (dat V c).Φ t.castSucc from rfl,
    show (dat V c).owesAt none t.succ = (dat V c).owesAt none t.castSucc from rfl]
  iintro ⟨HΦ, Ho, H⟩
  ihave Hw := (body_run V c t) $$ H
  iapply wp_wand $$ Hw
  iintro %_ H
  isplitl [HΦ]; · iexact HΦ
  isplitl [Ho]; · iexact Ho
  iexact H

end Cert.Proof.Run

end
-- ==== Proof.RegionStep.lean ====
/-
  The fused kernel's region as one step of @main: from the TensorCore's unscoped buffers held at a valuation to the
  same buffers with the region's five results written.
-/
module

public import proofs.«01_k».proof.Proof.TcRegion

@[expose] public section

noncomputable section

namespace Cert.Proof.Run

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F] [∀ e, Nonempty (Elt F e)]

local notation "𝕄" => MT nD τ sig (HIx 1) (Elt F) ℕ UU ℕ

variable (V : Valuation τ sig (Elt F))

/-- The one pipeline reads no table. -/
abbrev adm : (p : Fin 1) → (pcfgs (F := F) p).Adm := fun p => (cfgs p).toPCfg_adm

/-- The proof data, on every device. -/
abbrev pdats : (p : Fin 1) → (c : Dev nD) → Dat τ (Elt F) (HIx 1) ℕ UU ℕ (Pipeline.pin (pcfgs (F := F)) adm p) c :=
  fun _ c => dat V c

/-- The staging waits: nothing is owed, so any level will do for them. -/
theorem levelCut : Pipeline.LevelCut (pcfgs (F := F)) adm (none : HIx 1) (K (F := F)).L (K (F := F)).lev 0
    (fun _ : Dev nD => (0 : CellTallies nD τ sig (HIx 1))) fun _ => 0 where
  hι _ _ _ := Finset.mem_univ _
  hιb _ _ _ := le_refl _
  hD _ _ _ h := absurd h (Nat.lt_irrefl 0)

/-- The windows' arrays are among the TensorCore's unscoped buffers. -/
theorem arrRefs_sub : Pipeline.arrRefs (pcfgs (F := F) 0).spec ⊆ Pipeline.ucRefs τ sig :=
  Pipeline.arrRefs_sub_ucRefs _ (launch1.toP (Val := Elt F)).win.arr_unscoped

/-- What the region keeps aside goes in -/
theorem rest_in (c : Dev nD) :
    (iprop(Pipeline.scopedRest (Pipeline.pin (pcfgs (F := F)) adm 0).spec c ∗ emp) : sProp 𝕄) ⊢ (pdats V 0 c).Φ 0 := by
  rw [show (pdats V 0 c).Φ 0 = Pipeline.scopedRest (Ix := HIx 1) (Name := ℕ) (U := UU) (Lvl := ℕ) (Val := Elt F) spec1 c from rfl]
  iintro ⟨H, -⟩
  iexact H

/-- and comes out again. -/
theorem rest_out (c : Dev nD) :
    (pdats V 0 c).Φ (Fin.last (Pipeline.pin (pcfgs (F := F)) adm 0).N)
      ⊢ (iprop(Pipeline.scopedRest (Pipeline.pin (pcfgs (F := F)) adm 0).spec c ∗ emp) : sProp 𝕄) := by
  rw [show (pdats V 0 c).Φ (Fin.last (Pipeline.pin (pcfgs (F := F)) adm 0).N)
    = Pipeline.scopedRest (Ix := HIx 1) (Name := ℕ) (U := UU) (Lvl := ℕ) (Val := Elt F) spec1 c from rfl]
  iintro H
  isplitl [H]; · iexact H
  iempintro

set_option backward.isDefEq.respectTransparency.types false in
/-- The region's record, entered from the unscoped buffers at `V` and left at the valuation the library computes. -/
def reg : Pipeline.RegionSeg (pcfgs (F := F)) adm (pdats V) (none : HIx 1) (defs₀ (F := F)) 𝒱₀ (K (F := F)).L (K (F := F)).lev 0 :=
  Pipeline.RegionSeg.ofHeldIn (pcfgs (F := F)) adm (pdats V) none (defs₀ (F := F)) 𝒱₀ (K (F := F)).L (K (F := F)).lev 0
    (fun _ => 0) (Pipeline.ucRefs τ sig) (fun _ => iprop(emp)) (fun _ => iprop(emp)) launch1.toP rfl
    (fun c => (body_obligation V c).loose) (fun _ _ => rfl) (fun _ => rfl) (fun c => (dat V c).share_full fun _ => rfl)
    (rest_in V) (rest_out V) (fun _ => 0) levelCut (fun _ => iprop(emp)) (fun _ => V) (fun _ _ => rfl)

/-- What the unscoped buffers hold after the region. -/
abbrev afterTc (c : Dev nD) : Valuation τ sig (Elt F) :=
  Pipeline.afterRegion (cfg := Pipeline.pin (pcfgs (F := F)) adm 0) (pdats V 0 c) V

/-- The rounds' ghost state that the region takes. -/
abbrev tcGhost (c : Dev nD) : sProp 𝕄 :=
  iprop(Pipeline.cellsGhost (Pipeline.pin (pcfgs (F := F)) adm) EP 0 c ∗ Pipeline.toksInit (Pipeline.pin (pcfgs (F := F)) adm) EP 0 c)

set_option backward.isDefEq.respectTransparency.types false in
/-- The region is entered from the unscoped buffers and what the core owes. -/
theorem reg_pre (d : Dev nD) :
    iprop(StableHlo.held (d.tc : Thread nD τ) (Pipeline.ucRefs τ sig) V
        ∗ ((∃ W, owes (d.tc : Thread nD τ) (0 : CellTallies nD τ sig (HIx 1)) W) ∗ emp ∗ emp)) ⊢ (reg V).pre d := by
  have h := Pipeline.RegionSeg.ofHeldIn_pre (pcs := pcfgs (F := F)) (a := adm) (pdats := pdats V) (ι := none) (defs₀ := defs₀ (F := F))
    (𝒱₀ := 𝒱₀) (L := (K (F := F)).L) (lv := (K (F := F)).lev) (p := 0) (D := fun _ => 0) arrRefs_sub (X := fun _ => iprop(emp)) (Y := fun _ => iprop(emp))
    (kit := launch1.toP) (hK := rfl) (hbody := fun c => (body_obligation V c).loose) (howed := fun _ _ => rfl) (hrec := fun _ => rfl)
    (hshare := fun c => (dat V c).share_full fun _ => rfl) (hin := rest_in V) (hout := rest_out V) (b := fun _ => 0) (hcut := levelCut)
    (R := fun _ => iprop(emp)) (W := fun _ => V) (hW := fun _ _ => rfl) d
  exact h

set_option backward.isDefEq.respectTransparency.types false in
/-- It is left with the same, the results written. -/
theorem reg_post (d : Dev nD) :
    (reg V).post d ⊢ iprop(StableHlo.held (d.tc : Thread nD τ) (Pipeline.ucRefs τ sig) (afterTc V d)
        ∗ ((∃ W, owes (d.tc : Thread nD τ) (0 : CellTallies nD τ sig (HIx 1)) W) ∗ emp ∗ emp)) := by
  have h := Pipeline.RegionSeg.ofHeldIn_post (pcs := pcfgs (F := F)) (a := adm) (pdats := pdats V) (ι := none) (defs₀ := defs₀ (F := F))
    (𝒱₀ := 𝒱₀) (L := (K (F := F)).L) (lv := (K (F := F)).lev) (p := 0) (D := fun _ => 0) arrRefs_sub (X := fun _ => iprop(emp)) (Y := fun _ => iprop(emp))
    (kit := launch1.toP) (hK := rfl) (hbody := fun c => (body_obligation V c).loose) (howed := fun _ _ => rfl) (hrec := fun _ => rfl)
    (hshare := fun c => (dat V c).share_full fun _ => rfl) (hin := rest_in V) (hout := rest_out V) (b := fun _ => 0) (hcut := levelCut)
    (R := fun _ => iprop(emp)) (W := fun _ => V) (hW := fun _ _ => rfl) d
  exact h

set_option backward.isDefEq.respectTransparency.types false in
/-- The pipelined call inside @main. -/
theorem region_step (d : Dev nD) :
    iprop(boundary (SparseCore.T d : Thread nD τ) ∗ StableHlo.held (SparseCore.T d : Thread nD τ) (Pipeline.ucRefs τ sig) V
        ∗ (∃ W, owes (SparseCore.T d : Thread nD τ) (0 : CellTallies nD τ sig (HIx 1)) W) ∗ levAts (K (F := F)).L (K (F := F)).lev
        ∗ tcGhost d)
      ⊢ wp frame (wpE ((K (F := F)).defs (D (F := F))) 𝒱 (SparseCore.T d) none) Set.univ
          (Prog.lift (.customCall (SparseCore.inner (Pipeline.entry 0)) ()))
          fun _ => iprop(boundary (SparseCore.T d : Thread nD τ)
            ∗ StableHlo.held (SparseCore.T d : Thread nD τ) (Pipeline.ucRefs τ sig) (afterTc V d)
            ∗ ∃ W, owes (SparseCore.T d : Thread nD τ) (0 : CellTallies nD τ sig (HIx 1)) W) := by
  have hp : (Prog.lift (.customCall (SparseCore.inner (Pipeline.entry 0)) ()) :
        Prog (TpuEff nD τ sig (Elt F) (SparseCore.Sig (ΛP (F := F)) 1) .tc) PUnit)
      = SparseCore.liftProg (Q := 1) (.op (.customCall (Pipeline.entry (0 : Fin 1)) ()) .ret : Prog (TpuEff nD τ sig (Elt F) (ΛP (F := F)) .tc) PUnit) := rfl
  rw [hp]
  have h := fun Q => Pipeline.RegionSeg.wp (pcfgs (F := F)) adm (pdats V) none (launch1.toP.cellOf_inj adm) EP (defs₀ (F := F)) 𝒱₀
    (K (F := F)).L (K (F := F)).lev (reg V) d none (fun _ h => nomatch h) (fun x => .ret x) Q
  iintro ⟨Hb, Hh, HO, Hl, Hc, Ht⟩
  iapply ((K (F := F)).wp_liftProg (D (F := F)) 𝒱 (SparseCore.T d) Set.univ none
    (.op (.customCall (Pipeline.entry 0) ()) .ret) _)
  iapply (h _)
  isplitr [Hb Hh HO Hl Hc Ht]
  · iintro ⟨Hb, Hp⟩
    ihave Hp' := (reg_post V d) $$ Hp
    icases Hp' with ⟨Hh, HO, -, -⟩
    iapply (Entails.of_eq (wp_ret frame _ _ _ _).symm)
    imodintro
    isplitl [Hb]; · iexact Hb
    isplitl [Hh]; · iexact Hh
    iexact HO
  isplitl [Hb]; · iexact Hb
  isplitl [Hh HO]
  · iapply (reg_pre V d)
    isplitl [Hh]; · iexact Hh
    isplitl [HO]; · iexact HO
    isplitr <;> iempintro
  isplitl [Hl]; · iexact Hl
  isplitl [Hc]; · iexact Hc
  iexact Ht

end Cert.Proof.Run

end
-- ==== Proof.MaskLaunch.lean ====
/-
  The mask call's launch: what its handshakes carry, each tile's obligation, how the types and the result split into
  the tiles' parts and join, and the launch's ghost state.
-/
module

public import proofs.«01_k».proof.Proof.TileRun
public import proofs.«01_k».proof.Proof.RegionStep

@[expose] public section

noncomputable section

namespace Cert.Proof.Run

open Cert.KernelIdeal Cert.KernelIdeal.Gen Cert.Proof.Tile
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (t : Dev nD → S16384.Idx → BitVec 32) (o : Dev nD → S12x16384.Idx → F .f32)

/-- The call takes every tile's types and cells and brings them back, the cells at the mask. -/
def P : (K (F := F)).Pay (nD := nD) (Val := Elt F) (Name := ℕ) (U := UU) where
  st := fun q d c => bigSep Finset.univ fun i : Fin ((K (F := F)).nSub q) => tilePart d c.val i.val (t d) (o d)
  dn := fun q d c => bigSep Finset.univ fun i : Fin ((K (F := F)).nSub q) => tilePart d c.val i.val (t d) (maskT F (t d))
  go := fun _ d c i => tilePart d c.val i.val (t d) (o d)
  td := fun _ d c i => tilePart d c.val i.val (t d) (maskT F (t d))
  x := fun _ _ => iprop(emp)

/-- A tile's share can be handed over in a message, -/
instance tilePart_storable (d : Dev nD) (c s : ℕ) (t : S16384.Idx → BitVec 32) (f : S12x16384.Idx → F .f32) :
    BI.Storable (upEmb : UEmb _ 𝕄) (tilePart d c s t f) := by
  unfold tilePart
  infer_instance

/-- and so can all that the protocol hands over. -/
instance P_storable : (P (F := F) t o).IsStorable where
  st q d c := (inferInstance : BI.Storable (upEmb : UEmb _ 𝕄)
    (bigSep Finset.univ fun i : Fin ((K (F := F)).nSub q) => tilePart d c.val i.val (t d) (o d)))
  dn q d c := (inferInstance : BI.Storable (upEmb : UEmb _ 𝕄)
    (bigSep Finset.univ fun i : Fin ((K (F := F)).nSub q) => tilePart d c.val i.val (t d) (maskT F (t d))))
  go _ d c i := tilePart_storable d c.val i.val (t d) (o d)
  td _ d c i := tilePart_storable d c.val i.val (t d) (maskT F (t d))

/-! ## The tiles' obligation -/

/-- A tile's coordinates: its core and its subcore. -/
def coordsV (c : Fin (grid0.bound 0)) (s : Fin (grid0.bound 1)) : grid0.Coords :=
  fun | 0 => c | 1 => s | ⟨_ + 2, h⟩ => absurd h (Nat.not_lt.2 (Nat.le_add_left _ _))

/-- The body that a tile runs is the printed one at its coordinates. -/
theorem defs₀_vector (c : Fin τ.nSC) (s : Fin τ.nSub) :
    defs₀ (F := F) (.scVector c s) 0 ()
      = SparseCore.onTile hcore0 hsub0 (fun c s => cc0__sc_body (F := F) (coordsV c s)
          (Memref.whole main_v11_scv) (Memref.isWhole_whole _) (Memref.whole main_v12_scv) (Memref.isWhole_whole _)
            (Memref.whole cc0_scratch0) (Memref.isWhole_whole _) (Memref.whole cc0_scratch1) (Memref.isWhole_whole _) cc0_scoped0 cc0_scoped1 cc0_scoped2 cc0_scoped3 cc0_scoped4 cc0_scoped5
            cc0_scoped6 cc0_scoped7 cc0_scoped8 cc0_scoped9 cc0_scoped10 cc0_scoped11 cc0_scoped12) ⟨⟩ c s := rfl

omit [FloatOps F] in
/-- Waits of the tile's own are among those the obligation allows. -/
theorem allow {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro
    exact fun p hp => (hW' p hp).imp_right Or.inl
  · iexact HO

/-- A tile's run, at the tile by its number. -/
theorem tile_at (d : Dev nD) (L : grid0.Coords) (c : Fin τ.nSC) (i : Fin τ.nSub) (hc : (L 0).castLE hcore0 = c) (hi : (L 1).castLE hsub0 = i)
    (e : Prog (TpuEff nD τ sig (Elt F) Λ₀ (V d c i).2) PUnit)
    (he : HEq e (cc0__sc_body (F := F) L (Memref.whole main_v11_scv) (Memref.isWhole_whole _) (Memref.whole main_v12_scv) (Memref.isWhole_whole _)
            (Memref.whole cc0_scratch0) (Memref.isWhole_whole _) (Memref.whole cc0_scratch1) (Memref.isWhole_whole _)
            cc0_scoped0 cc0_scoped1 cc0_scoped2 cc0_scoped3 cc0_scoped4 cc0_scoped5
            cc0_scoped6 cc0_scoped7 cc0_scoped8 cc0_scoped9 cc0_scoped10 cc0_scoped11 cc0_scoped12))
    (t : S16384.Idx → BitVec 32) (f : S12x16384.Idx → F .f32) (O : CellTallies nD τ sig (HIx 1)) (W : Waits sig (HIx 1)) (hO : ∀ g, O g none = 0) :
    iprop(levAts (K (F := F)).L (K (F := F)).lev ∗ emp ∗ tilePart d c.val i.val t f
        ∗ scopedBufs (V d c i) ∗ scopedSems0 (V d c i) ∗ owes (V d c i) O W)
      ⊢ (wp frame (wpE (defs₀ (F := F)) 𝒱₀ (V d c i) none) Set.univ
          e
          fun _ => iprop(tilePart d c.val i.val t (maskT F t) ∗ scopedBufs (V d c i) ∗ scopedSems0 (V d c i)
            ∗ ∃ W', ⌜∀ p ∈ W', p ∈ W ∨ p.2 = none ∨ p.2 = some (0 : Fin 1)⌝ ∗ owes (V d c i) O W') : sProp 𝕄) := by
  subst hc
  subst hi
  obtain rfl := eq_of_heq he
  have h := tile_body d L facts t f O W hO
  have e1 : tilePart (F := F) d (L 0).val (L 1).val t f = tilePart d ((L 0).castLE hcore0).val ((L 1).castLE hsub0).val t f := rfl
  have e2 : tilePart (F := F) d (L 0).val (L 1).val t (maskT F t) = tilePart d ((L 0).castLE hcore0).val ((L 1).castLE hsub0).val t (maskT F t) := rfl
  rw [e1, e2] at h
  iintro H
  ihave Hw := h $$ H
  iapply wp_wand $$ Hw
  iintro %_ H
  iapply (allow (q := 0))
  iexact H

set_option maxRecDepth 100000 in
/-- Every tile's obligation to the call. -/
theorem tileObl : (K (F := F)).TileObl (D (F := F)) 𝒱 (P t o) v₀ 0 := by
  intro d c i O W hO _ _
  simp only [show (P t o).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_at d (coordsV ⟨_, hci.1⟩ ⟨_, hci.2⟩) ((K (F := F)).core 0 c) ((K (F := F)).sub 0 i) rfl rfl _ HEq.rfl (t d) (o d) O W hO

/-- A core's share is its sixteen tiles' shares, and back. -/
theorem vecSplit : (K (F := F)).VecSplit' (P t o) 0 := by
  intro d c
  show (bigSep Finset.univ fun i : Fin ((K (F := F)).nSub 0) => tilePart d c.val i.val (t d) (o d)) ⊢ |={Set.univ}=> iprop(
      (bigSep Finset.univ fun i : Fin ((K (F := F)).nSub 0) => tilePart d c.val i.val (t d) (o d))
      ∗ ((bigSep Finset.univ fun i : Fin ((K (F := F)).nSub 0) => tilePart d c.val i.val (t d) (maskT F (t d)))
          -∗ (bigSep Finset.univ fun i : Fin ((K (F := F)).nSub 0) => tilePart d c.val i.val (t d) (maskT F (t d)))))
  iintro H; imodintro
  isplitl [H]; · iexact H
  iintro H; iexact H

/-! ## The whole arrays are the tiles' parts -/

/-- A row is in the piece of one tile alone: the tile `s = j / 1024` of SparseCore `c = (j mod 1024) / 512`. -/
theorem base_inj {c c' s s' j : ℕ} (hc : c < 2) (hc' : c' < 2) (h : base c s ≤ j ∧ j < base c s + 512)
    (h' : base c' s' ≤ j ∧ j < base c' s' + 512) : c = c' ∧ s = s' := by
  unfold base at h h'
  omega

/-- No two tiles read the same type, -/
theorem tPiece_disjoint : ∀ p ∈ (Finset.univ : Finset (Fin 2 × Fin 16)), ∀ p' ∈ (Finset.univ : Finset (Fin 2 × Fin 16)), p ≠ p' →
    Disjoint (tPiece p.1.val p.2.val) (tPiece p'.1.val p'.2.val) := by
  intro p _ p' _ hne
  refine Finset.disjoint_left.mpr fun j h h' => hne ?_
  obtain ⟨h1, h2⟩ := base_inj p.1.isLt p'.1.isLt (Finset.mem_filter.mp h).2 (Finset.mem_filter.mp h').2
  exact Prod.ext (Fin.ext h1) (Fin.ext h2)

/-- no two row pieces share a cell, -/
theorem oPiece_disjoint : ∀ p ∈ (Finset.univ : Finset ((Fin 2 × Fin 16) × Fin 12)), ∀ p' ∈ (Finset.univ : Finset ((Fin 2 × Fin 16) × Fin 12)),
    p ≠ p' → Disjoint (oPiece p.1.1.val p.1.2.val p.2.val) (oPiece p'.1.1.val p'.1.2.val p'.2.val) := by
  intro p _ p' _ hne
  refine Finset.disjoint_left.mpr fun j h h' => hne ?_
  have h := (Finset.mem_filter.mp h).2
  have h' := (Finset.mem_filter.mp h').2
  obtain ⟨h1, h2⟩ := base_inj p.1.1.isLt p'.1.1.isLt h.2 h'.2
  exact Prod.ext (Prod.ext (Fin.ext h1) (Fin.ext h2)) (Fin.ext (h.1.symm.trans h'.1))

/-- The tile that has row `j`. -/
theorem base_cover {j : ℕ} (h : j < 16384) : j / 512 % 2 < 2 ∧ j / 1024 < 16 ∧ base (j / 512 % 2) (j / 1024) ≤ j
    ∧ j < base (j / 512 % 2) (j / 1024) + 512 := by
  unfold base
  omega

/-- the tiles' pieces are all the types -/
theorem tPiece_cover : (Finset.univ : Finset (Fin 2 × Fin 16)).biUnion (fun p => tPiece p.1.val p.2.val) = Finset.univ := by
  refine Finset.eq_univ_iff_forall.mpr fun j => Finset.mem_biUnion.mpr ?_
  obtain ⟨h1, h2, h3⟩ := base_cover (j 0).isLt
  exact ⟨(⟨_, h1⟩, ⟨_, h2⟩), Finset.mem_univ _, Finset.mem_filter.mpr ⟨Finset.mem_univ _, h3⟩⟩

/-- and the row pieces all the cells. -/
theorem oPiece_cover : (Finset.univ : Finset ((Fin 2 × Fin 16) × Fin 12)).biUnion (fun p => oPiece p.1.1.val p.1.2.val p.2.val) = Finset.univ := by
  refine Finset.eq_univ_iff_forall.mpr fun y => Finset.mem_biUnion.mpr ?_
  obtain ⟨h1, h2, h3⟩ := base_cover (y 1).isLt
  exact ⟨((⟨_, h1⟩, ⟨_, h2⟩), ⟨_, (y 0).isLt⟩), Finset.mem_univ _, Finset.mem_filter.mpr ⟨Finset.mem_univ _, rfl, h3⟩⟩

omit [FloatOps F] in
/-- The types and the result, whole, are the 32 tiles' parts. -/
theorem whole_eq (d : Dev nD) (t : S16384.Idx → BitVec 32) (f : S12x16384.Idx → F .f32) :
    (iprop((tLoc d ↦{fullShare} (t : Buf (Elt F) (tLoc d))) ∗ oLoc d ↦{fullShare} (f : Buf (Elt F) (oLoc d))) : sProp 𝕄)
      = bigSep Finset.univ fun c : Fin 2 => bigSep Finset.univ fun s : Fin 16 => tilePart d c.val s.val t f := by
  rw [← bigSep_univ_prod (fun p : Fin 2 × Fin 16 => tilePart d p.1.val p.2.val t f)]
  unfold tilePart
  rw [bigSep_sep']
  have hk := bigSep_univ_prod (fun p : (Fin 2 × Fin 16) × Fin 12 =>
      (oLoc d ↦[oPiece p.1.1.val p.1.2.val p.2.val]{fullShare} (f : Buf (Elt F) (oLoc d)) : sProp 𝕄))
  dsimp only at hk
  rw [← hk,
    ← pointsTo_biUnion Finset.univ (ℓ := tLoc d) (fun p : Fin 2 × Fin 16 => tPiece p.1.val p.2.val) tPiece_disjoint, tPiece_cover,
    ← pointsTo_biUnion Finset.univ (ℓ := oLoc d) (fun p : (Fin 2 × Fin 16) × Fin 12 => oPiece p.1.1.val p.1.2.val p.2.val) oPiece_disjoint,
    oPiece_cover]

/-- What the call takes is the two arrays whole; -/
theorem st_eq (d : Dev nD) : (bigSep Finset.univ fun c : Fin ((K (F := F)).nCore 0) => (P t o).st 0 d c)
    = (iprop((tLoc d ↦{fullShare} (t d : Buf (Elt F) (tLoc d))) ∗ oLoc d ↦{fullShare} (o d : Buf (Elt F) (oLoc d))) : sProp 𝕄) :=
  (whole_eq d (t d) (o d)).symm

/-- and so is what it brings back. -/
theorem dn_eq (d : Dev nD) : (bigSep Finset.univ fun c : Fin ((K (F := F)).nCore 0) => (P t o).dn 0 d c)
    = (iprop((tLoc d ↦{fullShare} (t d : Buf (Elt F) (tLoc d))) ∗ oLoc d ↦{fullShare} (maskT F (t d) : Buf (Elt F) (oLoc d))) : sProp 𝕄) :=
  (whole_eq d (t d) (maskT F (t d))).symm

/-! ## The launch's ghost state -/

variable [∀ e, Nonempty (Elt F e)]

/-- The handshakes' rounds, the pipelined call's rounds, no counter. -/
def u₀ : UU := (initOf (K (F := F)).hsCells (K (F := F)).hsToks,
  (initOf (Pipeline.cells (Pipeline.pin (pcfgs (F := F)) adm) (launch1.toP.cellOf_inj adm))
    (Pipeline.launchToks (Pipeline.pin (pcfgs (F := F)) adm) (launch1.toP.cellOf_inj adm)), 1))

/-- The launch's ghost state holds the mask call's part. -/
theorem hu₀ : (ownU (u₀ (F := F)) : sProp 𝕄)
    ⊢ |={Set.univ}=> iprop(BI.own (EH (initOf (K (F := F)).hsCells (K (F := F)).hsToks)) ∗ (bigSep Finset.univ fun d : Dev nD => tcGhost (F := F) d)
        ∗ bigSep Finset.univ fun thr : Thread nD τ => bigSep Finset.univ fun q : Fin 1 => (P t o).x q thr) := by
  unfold u₀
  iintro Hu
  ihave H := (ownU_pair _ _) $$ Hu
  icases H with ⟨HH, HR⟩
  ihave HR' := (own_pair_emb embR _ _) $$ HR
  icases HR' with ⟨HP, -⟩
  rw [show ((Emb.inl : Emb (UR sig nD τ) (UR sig nD τ × Counters)).trans embR : Emb (UR sig nD τ) 𝕄) = EP (F := F) from rfl]
  imod (Pipeline.fund_ghost (Pipeline.pin (pcfgs (F := F)) adm) (EP (F := F)) (launch1.toP.cellOf_inj adm)) $$ HP with ⟨Hg, Ht⟩
  imodintro
  isplitl [HH]; · iexact HH
  isplitl [Hg Ht]
  · rw [bigSep_sep']
    isplitl [Hg]
    · iapply (Entails.of_eq (bigSep_congr (Φ := fun c : Dev nD => bigSep Finset.univ fun p : Fin 1 =>
          Pipeline.cellsGhost (Pipeline.pin (pcfgs (F := F)) adm) (EP (F := F)) p c) fun _ _ => bigSep_univ_of_subsingleton (0 : Fin 1)))
      iexact Hg
    · iapply (Entails.of_eq (bigSep_congr (Φ := fun c : Dev nD => bigSep Finset.univ fun p : Fin 1 =>
          Pipeline.toksInit (Pipeline.pin (pcfgs (F := F)) adm) (EP (F := F)) p c) fun _ _ => bigSep_univ_of_subsingleton (0 : Fin 1)))
      iexact Ht
  rw [show (bigSep Finset.univ fun thr : Thread nD τ => bigSep Finset.univ fun q : Fin 1 => (P (F := F) t o).x q thr) = bigSep Finset.univ fun _ => iprop(emp) from
    bigSep_congr fun _ _ => bigSep_univ_of_subsingleton (0 : Fin 1), show (bigSep Finset.univ fun _ : Thread nD τ => (iprop(emp) : sProp 𝕄)) = iprop(emp) from bigSep_emp_const _]
  iempintro

end Cert.Proof.Run

end
-- ==== Proof.Stages.lean ====
/-
  @main's host operations, and what every buffer holds at each of its stages: after the operations before the calls, after
  the mask call, after the fused call, after the operations behind them.
-/
module

public import proofs.«01_k».proof.Proof.MaskLaunch

@[expose] public section

noncomputable section

namespace Cert.Proof.Run

open Cert.KernelIdeal Cert.KernelIdeal.Gen Cert.Proof.Tile
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The host's operations before the calls. -/
def opsPre (F : FTy → Type) [FloatOps F] : List (HloOp τ sig (Elt F)) :=
  [StableHlo.nullary main_cst (fun i => FloatOps.ofBits .f32 (lit0 (S4.rowMajor i))),
   StableHlo.nullary main_cst_0 (fun i => FloatOps.ofBits .f32 (lit1 (S4.rowMajor i))),
   StableHlo.nullary main_cst_1 (fun i => FloatOps.ofBits .f32 (lit2 (S4.rowMajor i))),
   StableHlo.nullary main_cst_2 (fun i => FloatOps.ofBits .f32 (lit3 (S4.rowMajor i))),
   StableHlo.nullary main_cst_3 (fun i => FloatOps.ofBits .f32 (lit4 (S4.rowMajor i))),
   StableHlo.reshape main_arg1 main_v0 (rfl : (.i32 : EltTy) = .i32) shapeCasts_S16384_S1x16384,
   StableHlo.unary main_arg3 main_v1 ((transpose S5x12x32 [0, 2, 1] · transposes_S5x32x12_S5x12x32_0_2_1) : (⟨S5x32x12, .f32⟩ : BufTy).Contents (Elt F) → (⟨S5x12x32, .f32⟩ : BufTy).Contents (Elt F)),
   StableHlo.unary main_arg5 main_v2 ((transpose S48x512 [1, 0] · transposes_S512x48_S48x512_1_0) : (⟨S512x48, .f32⟩ : BufTy).Contents (Elt F) → (⟨S48x512, .f32⟩ : BufTy).Contents (Elt F)),
   StableHlo.unary main_arg15 main_v3 ((transpose S4x128 [1, 0] · transposes_S128x4_S4x128_1_0) : (⟨S128x4, .f32⟩ : BufTy).Contents (Elt F) → (⟨S4x128, .f32⟩ : BufTy).Contents (Elt F)),
   StableHlo.unary main_arg17 main_v4 ((transpose S144x256 [1, 0] · transposes_S256x144_S144x256_1_0) : (⟨S256x144, .f32⟩ : BufTy).Contents (Elt F) → (⟨S144x256, .f32⟩ : BufTy).Contents (Elt F)),
   StableHlo.reshape main_cst main_v5 (rfl : (.f32 : EltTy) = .f32) shapeCasts_S4_S4x1,
   StableHlo.reshape main_cst_0 main_v6 (rfl : (.f32 : EltTy) = .f32) shapeCasts_S4_S4x1,
   StableHlo.reshape main_cst_1 main_v7 (rfl : (.f32 : EltTy) = .f32) shapeCasts_S4_S4x1,
   StableHlo.reshape main_cst_2 main_v8 (rfl : (.f32 : EltTy) = .f32) shapeCasts_S4_S4x1,
   StableHlo.reshape main_cst_3 main_v9 (rfl : (.f32 : EltTy) = .f32) shapeCasts_S4_S4x1,
   StableHlo.unary main_arg0 main_v10 ((transpose S12x16384 [1, 0] · transposes_S16384x12_S12x16384_1_0) : (⟨S16384x12, .f32⟩ : BufTy).Contents (Elt F) → (⟨S12x16384, .f32⟩ : BufTy).Contents (Elt F)),
   StableHlo.reshape main_v0 main_v11 (rfl : (.i32 : EltTy) = .i32) shapeCasts_S1x16384_S16384]

/-- The host's operations after the calls. -/
def opsPost (F : FTy → Type) [FloatOps F] : List (HloOp τ sig (Elt F)) :=
  [StableHlo.unary main_v12 main_v14 ((transpose S16384x12 [1, 0] · transposes_S12x16384_S16384x12_1_0) : (⟨S12x16384, .f32⟩ : BufTy).Contents (Elt F) → (⟨S16384x12, .f32⟩ : BufTy).Contents (Elt F)),
   StableHlo.nullary main_cst_4 (constant S_ .f32 0x3F000000#32),
   StableHlo.unary main_cst_4 main_v15 (broadcastInDim S16384x12 ![] bcast_S_S16384x12 : (⟨S_, .f32⟩ : BufTy).Contents (Elt F) → (⟨S16384x12, .f32⟩ : BufTy).Contents (Elt F)),
   StableHlo.binary main_v14 main_v15 main_v16 (cmpf .ogt : (⟨S16384x12, .f32⟩ : BufTy).Contents (Elt F) → (⟨S16384x12, .f32⟩ : BufTy).Contents (Elt F) → (⟨S16384x12, .i1⟩ : BufTy).Contents (Elt F)),
   StableHlo.unary main_v13_0 main_v17 ((transpose S16384x12 [1, 0] · transposes_S12x16384_S16384x12_1_0) : (⟨S12x16384, .f32⟩ : BufTy).Contents (Elt F) → (⟨S16384x12, .f32⟩ : BufTy).Contents (Elt F)),
   StableHlo.unary main_v13_1 main_v18 ((transpose S16384x5 [1, 0] · transposes_S5x16384_S16384x5_1_0) : (⟨S5x16384, .f32⟩ : BufTy).Contents (Elt F) → (⟨S16384x5, .f32⟩ : BufTy).Contents (Elt F)),
   StableHlo.unary main_v13_2 main_v19 ((transpose S16384x2 [1, 0] · transposes_S2x16384_S16384x2_1_0) : (⟨S2x16384, .f32⟩ : BufTy).Contents (Elt F) → (⟨S16384x2, .f32⟩ : BufTy).Contents (Elt F)),
   StableHlo.reshape main_v13_4 main_v20 (rfl : (.i32 : EltTy) = .i32) shapeCasts_S1x16384_S16384]

/-- The buffers that they write. -/
abbrev wPre : List (Ref sig .tc) := [main_cst, main_cst_0, main_cst_1, main_cst_2, main_cst_3, main_v0, main_v1, main_v2, main_v3, main_v4, main_v5, main_v6, main_v7, main_v8, main_v9, main_v10, main_v11]
/-- What the host's last operations write. -/
abbrev wPost : List (Ref sig .tc) := [main_v14, main_cst_4, main_v15, main_v16, main_v17, main_v18, main_v19, main_v20]

/-- The program is the host's first operations, the mask call, the fused call and the host's last operations. -/
theorem main_eq (d : Dev nD) : main (F := F) d = (do
    StableHlo.seq (opsPre F)
    sc.run d 0
    Prog.lift (.customCall (SparseCore.inner (Pipeline.entry 0)) ())
    StableHlo.seq (opsPost F)
    pure ⟨⟩) := by
  simp only [main, opsPre, opsPost, StableHlo.seq, bind_assoc, pure_bind]

/-- The first operations touch only what the main thread holds, -/
theorem opsPre_sub : ∀ op ∈ opsPre F, op.bufs ⊆ Pipeline.ucRefs τ sig := by
  refine fun op h => Pipeline.sub_ucRefs op (List.forall_iff_forall_mem.mp (?_ : (opsPre F).Forall fun op => op.bufs ⊆ StableHlo.tcRefs τ sig) op h)
  simp only [opsPre, List.Forall, StableHlo.nullary_bufs_sub, StableHlo.unary_bufs_sub, StableHlo.reshape_bufs_sub, and_self]

/-- as do the last; -/
theorem opsPost_sub : ∀ op ∈ opsPost F, op.bufs ⊆ Pipeline.ucRefs τ sig := by
  refine fun op h => Pipeline.sub_ucRefs op (List.forall_iff_forall_mem.mp (?_ : (opsPost F).Forall fun op => op.bufs ⊆ StableHlo.tcRefs τ sig) op h)
  simp only [opsPost, List.Forall, StableHlo.nullary_bufs_sub, StableHlo.unary_bufs_sub, StableHlo.binary_bufs_sub, StableHlo.reshape_bufs_sub, and_self]

/-- the first take no fresh buffer, -/
theorem opsPre_fresh : ∀ op ∈ opsPre F, op.fresh = ∅ :=
  List.forall_iff_forall_mem.mp (StableHlo.forall_fresh_of_map (ops := opsPre F) rfl)

/-- nor do the last. -/
theorem opsPost_fresh : ∀ op ∈ opsPost F, op.fresh = ∅ :=
  List.forall_iff_forall_mem.mp (StableHlo.forall_fresh_of_map (ops := opsPost F) rfl)

/-- What they do not write they keep. -/
theorem afterPre_keeps (W : Valuation τ sig (Elt F)) {r : Ref sig .tc} (h : r ∉ wPre) :
    StableHlo.after (opsPre F) W (Proc.devRef .tc r) = W (Proc.devRef .tc r) :=
  StableHlo.after_of_writes_sub _ _ (StableHlo.forall_writes_sub_of_map (W := wPre) rfl) h

/-- The last operations keep every buffer that they do not write. -/
theorem afterPost_keeps (W : Valuation τ sig (Elt F)) {r : Ref sig .tc} (h : r ∉ wPost) :
    StableHlo.after (opsPost F) W (Proc.devRef .tc r) = W (Proc.devRef .tc r) :=
  StableHlo.after_of_writes_sub _ _ (StableHlo.forall_writes_sub_of_map (W := wPost) rfl) h

/-! ## The stages -/

variable [∀ e, Nonempty (Elt F e)] (m : (ℓ : Loc nD τ sig) → Buf (Elt F) ℓ)

/-- Before the calls. -/
def V1 (d : Dev nD) : Valuation τ sig (Elt F) := StableHlo.after (opsPre F) (StableHlo.launchContents m d)

/-- The rows' types, as the mask call reads them. -/
def types (d : Dev nD) : S16384.Idx → BitVec 32 := V1 m d (Proc.devRef .tc main_v11)

/-- What the mask call's result holds before it. -/
def stale (d : Dev nD) : S12x16384.Idx → F .f32 := V1 m d (Proc.devRef .tc main_v12)

/-- After the mask call. -/
def V2 (d : Dev nD) : Valuation τ sig (Elt F) :=
  Function.update (V1 m d) (Proc.devRef .tc main_v12) (maskT F (types m d))

/-- After the fused call. -/
def V3 (d : Dev nD) : Valuation τ sig (Elt F) := afterTc (V2 m d) d

/-- At the end. -/
def V4 (d : Dev nD) : Valuation τ sig (Elt F) := StableHlo.after (opsPost F) (V3 m d)

end Cert.Proof.Run

end
-- ==== Proof.Blocks.lean ====
/-
  Where the fused kernel's blocks lie: at point `t` of the grid the windows over the batch hold columns `4096 t` to
  `4096 t + 4095`, and the windows over the weights hold their whole arrays.
-/
module

public import proofs.«01_k».proof.Proof.Stages
public import Idealize.ShloMosaic.Lib.Pipeline.ValueKit
public import Idealize.ShloMosaic.Lib.Pointwise

@[expose] public section

set_option maxRecDepth 16384

noncomputable section

namespace Cert.Proof.Run

open Cert.KernelIdeal Cert.KernelIdeal.Gen Idealize.ShloMosaic

variable {F : FTy → Type} [FloatOps F] [∀ e, Nonempty (Elt F e)] (V : Valuation τ sig (Elt F)) (t : Fin cfg1.N)

/-- The grid has four points. -/
theorem point_lt : t.val < 4 := lt_of_lt_of_eq t.isLt N_1

/-- The row of the batch that column `c` of the blocks at point `t` holds. -/
def rowAt (c : Fin 4096) : Fin 16384 := ⟨4096 * t.val + c.val, by have := point_lt t; omega⟩

/-- The index maps over the batch, -/
theorem index_cols : ∀ t : Fin grid1.N, (win1_0.index t 0 = 0 ∧ win1_0.index t 1 = t.val) ∧ (win1_1.index t 0 = 0 ∧ win1_1.index t 1 = t.val)
    ∧ (win1_34.index t 0 = 0 ∧ win1_34.index t 1 = t.val) ∧ (win1_35.index t 0 = 0 ∧ win1_35.index t 1 = t.val)
    ∧ (win1_36.index t 0 = 0 ∧ win1_36.index t 1 = t.val) ∧ (win1_37.index t 0 = t.val ∧ win1_37.index t 1 = 0)
    ∧ (win1_38.index t 0 = 0 ∧ win1_38.index t 1 = t.val) := by decide +kernel

/-- and over the weights. -/
theorem index_whole : ∀ (t : Fin grid1.N) (w : Fin 39), 2 ≤ w.val → w.val < 34 → ∀ a, (cfg1.win w).index t a = 0 := by decide +kernel

/-- Where the index map is zero, a block's element is the array's at the same coordinates. -/
theorem emb_whole {w : Pipeline.Window sig grid1} (h : ∀ a, w.index t a = 0) (y : (w.xblock (grid1.coords t)).Idx)
    (z : w.shape.Idx) (e : ∀ a, (y a).val = (z a).val) : (w.rect t).emb y = z :=
  funext fun a => Fin.ext ((Pipeline.Window.rect_emb_val_of_index_zero w t a (h a) y).trans (e a))

/-- The types' window. -/
theorem ins_types (c : Fin 4096) :
    insAt V t 0 (ix2 0 c) = (V (Proc.devRef .tc main_v0) : IVec S1x16384 32) (ix2 0 (rowAt t c)) := by
  refine congrArg (V (Proc.devRef .tc main_v0)) (funext fun a => Fin.ext ?_)
  refine (Pipeline.Window.rect_emb_val win1_0 t _ a).trans ?_
  match a with
  | ⟨0, _⟩ =>
    change win1_0.index t 0 * 1 + 0 = 0
    rw [(index_cols t).1.1]
  | ⟨1, _⟩ =>
    change win1_0.index t 1 * 4096 + c.val = 4096 * t.val + c.val
    rw [(index_cols t).1.2]
    omega

/-- The numbers' window. -/
theorem ins_nums (k : Fin 12) (c : Fin 4096) :
    insAt V t 1 (ix2 k c) = (V (Proc.devRef .tc main_v10) : FVec F S12x16384 .f32) (ix2 k (rowAt t c)) := by
  refine congrArg (V (Proc.devRef .tc main_v10)) (funext fun a => Fin.ext ?_)
  refine (Pipeline.Window.rect_emb_val win1_1 t _ a).trans ?_
  match a with
  | ⟨0, _⟩ =>
    change win1_1.index t 0 * 12 + k.val = k.val
    rw [(index_cols t).2.1.1]
    omega
  | ⟨1, _⟩ =>
    change win1_1.index t 1 * 4096 + c.val = 4096 * t.val + c.val
    rw [(index_cols t).2.1.2]
    omega

/-- What the body leaves in the five result windows: the reconstruction, -/
theorem afterAt_34 : afterAt V t 34 = reconV (insAt V t) := by
  unfold afterAt
  rw [Function.update_of_ne (by decide), Function.update_of_ne (by decide), Function.update_of_ne (by decide),
    Function.update_of_ne (by decide), Function.update_self]

/-- the class logits, -/
theorem afterAt_35 : afterAt V t 35 = clsV (insAt V t) := by
  unfold afterAt
  rw [Function.update_of_ne (by decide), Function.update_of_ne (by decide), Function.update_of_ne (by decide), Function.update_self]

/-- the closedness logits, -/
theorem afterAt_36 : afterAt V t 36 = iscV (insAt V t) := by
  unfold afterAt
  rw [Function.update_of_ne (by decide), Function.update_of_ne (by decide), Function.update_self]

/-- the quantised rows -/
theorem afterAt_37 : afterAt V t 37 = zqV (insAt V t) := by
  unfold afterAt
  rw [Function.update_of_ne (by decide), Function.update_self]

/-- and the indices. -/
theorem afterAt_38 : afterAt V t 38 = idxV (insAt V t) := by
  unfold afterAt
  rw [Function.update_self]

/-- An index of a two-axis array from its two coordinates' values. -/
theorem ix2_of_vals {m n : ℕ} {i : (⟨2, ![m, n]⟩ : Shape).Idx} {a : Fin m} {b : Fin n} (h0 : (i 0).val = a.val) (h1 : (i 1).val = b.val) :
    i = ix2 a b :=
  funext fun k => Fin.ext (by
    match k with
    | ⟨0, _⟩ => exact h0
    | ⟨1, _⟩ => exact h1)

/-- Where the result windows' blocks lie in their arrays: the reconstruction's block, -/
theorem emb_34 (y : S12x4096.Idx) : (win1_34.rect t).emb y = ix2 (n0 := 12) (n1 := 16384) (y 0) (rowAt t (y 1)) := by
  obtain ⟨h0, h1⟩ := (index_cols t).2.2.1
  refine ix2_of_vals ((Pipeline.Window.rect_emb_val win1_34 t _ 0).trans ?_) ((Pipeline.Window.rect_emb_val win1_34 t _ 1).trans ?_)
  · rw [h0, Nat.zero_mul, Nat.zero_add]
  · rw [h1]
    exact congrArg (· + (y 1).val) (Nat.mul_comm _ _)

/-- the class logits' block, -/
theorem emb_35 (y : S5x4096.Idx) : (win1_35.rect t).emb y = ix2 (n0 := 5) (n1 := 16384) (y 0) (rowAt t (y 1)) := by
  obtain ⟨h0, h1⟩ := (index_cols t).2.2.2.1
  refine ix2_of_vals ((Pipeline.Window.rect_emb_val win1_35 t _ 0).trans ?_) ((Pipeline.Window.rect_emb_val win1_35 t _ 1).trans ?_)
  · rw [h0, Nat.zero_mul, Nat.zero_add]
  · rw [h1]
    exact congrArg (· + (y 1).val) (Nat.mul_comm _ _)

/-- the closedness logits' block, -/
theorem emb_36 (y : S2x4096.Idx) : (win1_36.rect t).emb y = ix2 (n0 := 2) (n1 := 16384) (y 0) (rowAt t (y 1)) := by
  obtain ⟨h0, h1⟩ := (index_cols t).2.2.2.2.1
  refine ix2_of_vals ((Pipeline.Window.rect_emb_val win1_36 t _ 0).trans ?_) ((Pipeline.Window.rect_emb_val win1_36 t _ 1).trans ?_)
  · rw [h0, Nat.zero_mul, Nat.zero_add]
  · rw [h1]
    exact congrArg (· + (y 1).val) (Nat.mul_comm _ _)

/-- the quantised rows' block, whose rows are the array's, -/
theorem emb_37 (y : S4096x128.Idx) : (win1_37.rect t).emb y = ix2 (n0 := 16384) (n1 := 128) (rowAt t (y 0)) (y 1) := by
  obtain ⟨h0, h1⟩ := (index_cols t).2.2.2.2.2.1
  refine ix2_of_vals ((Pipeline.Window.rect_emb_val win1_37 t _ 0).trans ?_) ((Pipeline.Window.rect_emb_val win1_37 t _ 1).trans ?_)
  · rw [h0]
    exact congrArg (· + (y 0).val) (Nat.mul_comm _ _)
  · rw [h1, Nat.zero_mul, Nat.zero_add]

/-- and the indices' block. -/
theorem emb_38 (y : S1x4096.Idx) : (win1_38.rect t).emb y = ix2 (n0 := 1) (n1 := 16384) (y 0) (rowAt t (y 1)) := by
  obtain ⟨h0, h1⟩ := (index_cols t).2.2.2.2.2.2
  refine ix2_of_vals ((Pipeline.Window.rect_emb_val win1_38 t _ 0).trans ?_) ((Pipeline.Window.rect_emb_val win1_38 t _ 1).trans ?_)
  · rw [h0, Nat.zero_mul, Nat.zero_add]
  · rw [h1]
    exact congrArg (· + (y 1).val) (Nat.mul_comm _ _)

end Cert.Proof.Run

end
-- ==== Proof.Rows.lean ====
/-
  What one row of the batch computes, over the reals: the row's type `t` picks the matrices of the first and the last
  layer, and `p` is its twelve numbers. Both programs are read against these functions.
-/
module

public import Idealize.ShloMosaic.Lib.Pointwise

@[expose] public section

noncomputable section

namespace Cert.Proof.Rows

open Idealize.ShloMosaic

/-- The weights, one array for each argument after the first two. -/
structure Weights where
  emb : FVec Ideal ⟨2, ![5, 16]⟩ .f32
  wpe : FVec Ideal ⟨3, ![5, 32, 12]⟩ .f32
  bpe : FVec Ideal ⟨2, ![5, 32]⟩ .f32
  w1 : FVec Ideal ⟨2, ![512, 48]⟩ .f32
  b1 : FVec Ideal ⟨1, ![512]⟩ .f32
  w2 : FVec Ideal ⟨2, ![256, 512]⟩ .f32
  b2 : FVec Ideal ⟨1, ![256]⟩ .f32
  w3 : FVec Ideal ⟨2, ![128, 256]⟩ .f32
  b3 : FVec Ideal ⟨1, ![128]⟩ .f32
  w4 : FVec Ideal ⟨2, ![128, 128]⟩ .f32
  b4 : FVec Ideal ⟨1, ![128]⟩ .f32
  win : FVec Ideal ⟨2, ![4, 128]⟩ .f32
  bin : FVec Ideal ⟨1, ![4]⟩ .f32
  wout : FVec Ideal ⟨2, ![128, 4]⟩ .f32
  bout : FVec Ideal ⟨1, ![128]⟩ .f32
  d1 : FVec Ideal ⟨2, ![256, 144]⟩ .f32
  e1 : FVec Ideal ⟨1, ![256]⟩ .f32
  d2 : FVec Ideal ⟨2, ![512, 256]⟩ .f32
  e2 : FVec Ideal ⟨1, ![512]⟩ .f32
  d3 : FVec Ideal ⟨2, ![32, 512]⟩ .f32
  e3 : FVec Ideal ⟨1, ![32]⟩ .f32
  wc : FVec Ideal ⟨2, ![5, 128]⟩ .f32
  bc : FVec Ideal ⟨1, ![5]⟩ .f32
  wi : FVec Ideal ⟨2, ![2, 128]⟩ .f32
  bi : FVec Ideal ⟨1, ![2]⟩ .f32
  wr : FVec Ideal ⟨3, ![5, 12, 32]⟩ .f32
  br : FVec Ideal ⟨2, ![5, 12]⟩ .f32

/-- The quantiser's constants, by the digit: the shift before the hyperbolic tangent, -/
def shiftC (i : Fin 4) : EReal := Ideal.ofBits .f32 (![0x3E1324E0#32, 0#32, 0#32, 0#32] i)
/-- the half range, -/
def halfL (i : Fin 4) : EReal := Ideal.ofBits .f32 (![0x40603958#32, 0x400020C5#32, 0x400020C5#32, 0x400020C5#32] i)
/-- the offset, -/
def offC (i : Fin 4) : EReal := Ideal.ofBits .f32 (![0x3F000000#32, 0#32, 0#32, 0#32] i)
/-- the half width, -/
def halfW (i : Fin 4) : EReal := Ideal.ofBits .f32 (![0x40800000#32, 0x40000000#32, 0x40000000#32, 0x40000000#32] i)
/-- and the digit's place. -/
def placeC (i : Fin 4) : EReal := Ideal.ofBits .f32 (![0x3F800000#32, 0x41000000#32, 0x42200000#32, 0x43480000#32] i)

variable (A : Weights) (t : Fin 5) (p : Fin 12 → EReal)

/-- The row's numbers through its type's matrix. -/
def rowPe (j : Fin 32) : EReal := (∑ k : Fin 12, A.wpe (ix3 t j k) * p k) + A.bpe (ix2 t j)

/-- The encoder's first layer, of the row's numbers beside its type's embedding, -/
def rowH1 (n : Fin 512) : EReal :=
  max ((∑ k : Fin 32, rowPe A t p k * A.w1 (ix2 n ⟨k.val, by omega⟩)) + (∑ k : Fin 16, A.emb (ix2 t k) * A.w1 (ix2 n ⟨32 + k.val, by omega⟩))
    + A.b1 (ix1 n)) 0

/-- the second, -/
def rowH2 (n : Fin 256) : EReal := max ((∑ k : Fin 512, rowH1 A t p k * A.w2 (ix2 n k)) + A.b2 (ix1 n)) 0

/-- the third -/
def rowH3 (n : Fin 128) : EReal := max ((∑ k : Fin 256, rowH2 A t p k * A.w3 (ix2 n k)) + A.b3 (ix1 n)) 0

/-- and the last, without its bias, -/
def rowHid (n : Fin 128) : EReal := ∑ k : Fin 128, rowH3 A t p k * A.w4 (ix2 n k)

/-- the encoder's output. -/
def rowZ (n : Fin 128) : EReal := rowHid A t p n + A.b4 (ix1 n)

/-- The number that the quantiser rounds, at digit `i`. -/
def rowBounded (i : Fin 4) : EReal :=
  Ideal.tanh ((∑ k : Fin 128, rowZ A t p k * A.win (ix2 i k)) + A.bin (ix1 i) + shiftC i) * halfL i - offC i

/-- It rounded, -/
def rowRounded (i : Fin 4) : EReal := Ideal.liftRound Ideal.roundHalfEven (rowBounded A t p i)

/-- and scaled to the digit's code. -/
def rowCode (i : Fin 4) : EReal := Ideal.div (rowRounded A t p i) (halfW i)

/-- The index of the row's code. -/
def rowIdx : BitVec 32 := Ideal.fptosi 32 (∑ i : Fin 4, (rowRounded A t p i + halfW i) * placeC i)

/-- The quantised row. -/
def rowZq (n : Fin 128) : EReal := (∑ i : Fin 4, rowCode A t p i * A.wout (ix2 n i)) + A.bout (ix1 n)

/-- The class head -/
def rowCls (n : Fin 5) : EReal := (∑ k : Fin 128, rowZq A t p k * A.wc (ix2 n k)) + A.bc (ix1 n)

/-- and the closedness head. -/
def rowIsc (n : Fin 2) : EReal := (∑ k : Fin 128, rowZq A t p k * A.wi (ix2 n k)) + A.bi (ix1 n)

/-- The decoder's first layer, of the quantised row beside the type's embedding, before the maximum, -/
def rowD1 (n : Fin 256) : EReal :=
  (∑ k : Fin 128, rowZq A t p k * A.d1 (ix2 n ⟨k.val, by omega⟩)) + (∑ k : Fin 16, A.emb (ix2 t k) * A.d1 (ix2 n ⟨128 + k.val, by omega⟩))
    + A.e1 (ix1 n)

/-- the second -/
def rowD2 (n : Fin 512) : EReal := max ((∑ k : Fin 256, max (rowD1 A t p k) 0 * A.d2 (ix2 n k)) + A.e2 (ix1 n)) 0

/-- and the last. -/
def rowD3 (n : Fin 32) : EReal := (∑ k : Fin 512, rowD2 A t p k * A.d3 (ix2 n k)) + A.e3 (ix1 n)

/-- The reconstruction, through the type's matrix. -/
def rowRecon (i : Fin 12) : EReal := (∑ k : Fin 32, A.wr (ix3 t i k) * rowD3 A t p k) + A.br (ix2 t i)

/-- How many of a row's twelve numbers its type uses. -/
def used (t : Fin 5) : BitVec 32 := ![7#32, 9#32, 10#32, 11#32, 12#32] t

/-- The mask's bit: number `k` is one that the row's type uses. -/
def rowMask (t : Fin 5) (k : Fin 12) : BitVec 1 := IntOp.cmpi .slt (BitVec.ofNat 32 k.val) (used t)

end Cert.Proof.Rows

end
-- ==== Proof.BlockRows.lean ====
/-
  The fused kernel's block, column by column: where the block's windows hold a row's type and numbers and the weights,
  each value that the body stores is what that row computes.
-/
module

public import proofs.«01_k».proof.Proof.Rows
public import proofs.«01_k».proof.Proof.TcBody

@[expose] public section

set_option maxRecDepth 16384

noncomputable section

namespace Cert.Proof.Rows

open Idealize.ShloMosaic Cert.KernelIdeal Cert.KernelIdeal.Gen Cert.Proof.Run

/-- The windows `x` hold, in column `c`, the type `t` and the numbers `p`, and beside them the weights `A` in the layout
that the kernel's call gives them. -/
structure Agrees (x : Ins Ideal) (A : Weights) (t : Fin 5) (p : Fin 12 → EReal) (c : Fin 4096) : Prop where
  ty : x 0 (ix2 0 c) = BitVec.ofNat 32 t.val
  par : ∀ k, x 1 (ix2 k c) = p k
  wpe : ∀ s k j, x 2 (ix3 s k j) = A.wpe (ix3 s j k)
  bpe : ∀ s j, x 3 (ix2 s j) = A.bpe (ix2 s j)
  w1 : ∀ k n, x 4 (ix2 k n) = A.w1 (ix2 n k)
  b1 : ∀ n, x 5 (ix1 n) = A.b1 (ix1 n)
  w2 : ∀ n k, x 6 (ix2 n k) = A.w2 (ix2 n k)
  b2 : ∀ n, x 7 (ix1 n) = A.b2 (ix1 n)
  w3 : ∀ n k, x 8 (ix2 n k) = A.w3 (ix2 n k)
  b3 : ∀ n, x 9 (ix1 n) = A.b3 (ix1 n)
  w4 : ∀ n k, x 10 (ix2 n k) = A.w4 (ix2 n k)
  b4 : ∀ n, x 11 (ix1 n) = A.b4 (ix1 n)
  win : ∀ n k, x 12 (ix2 n k) = A.win (ix2 n k)
  bin : ∀ n, x 13 (ix1 n) = A.bin (ix1 n)
  wout : ∀ k n, x 14 (ix2 k n) = A.wout (ix2 n k)
  bout : ∀ n, x 15 (ix1 n) = A.bout (ix1 n)
  wc : ∀ n k, x 16 (ix2 n k) = A.wc (ix2 n k)
  bc : ∀ n, x 17 (ix1 n) = A.bc (ix1 n)
  wi : ∀ n k, x 18 (ix2 n k) = A.wi (ix2 n k)
  bi : ∀ n, x 19 (ix1 n) = A.bi (ix1 n)
  d1 : ∀ k n, x 20 (ix2 k n) = A.d1 (ix2 n k)
  e1 : ∀ n, x 21 (ix1 n) = A.e1 (ix1 n)
  d2 : ∀ n k, x 22 (ix2 n k) = A.d2 (ix2 n k)
  e2 : ∀ n, x 23 (ix1 n) = A.e2 (ix1 n)
  d3 : ∀ n k, x 24 (ix2 n k) = A.d3 (ix2 n k)
  e3 : ∀ n, x 25 (ix1 n) = A.e3 (ix1 n)
  wr : ∀ s i k, x 26 (ix3 s i k) = A.wr (ix3 s i k)
  br : ∀ s i, x 27 (ix2 s i) = A.br (ix2 s i)
  emb : ∀ s k, x 28 (ix2 s k) = A.emb (ix2 s k)
  shift : ∀ i, x 29 (ix2 i 0) = shiftC i
  half : ∀ i, x 30 (ix2 i 0) = halfL i
  off : ∀ i, x 31 (ix2 i 0) = offC i
  width : ∀ i, x 32 (ix2 i 0) = halfW i
  place : ∀ i, x 33 (ix2 i 0) = placeC i

variable {x : Ins Ideal} {A : Weights} {t : Fin 5} {p : Fin 12 → EReal} {c : Fin 4096}

/-- The comparison's bit, read as a number. -/
theorem bit_apply (s t : Fin 5) :
    FloatOps.sitofp (F := Ideal) .f32 (BitVec.setWidth 32 (IntOp.cmpi .eq (BitVec.ofNat 32 s.val) (BitVec.ofNat 32 t.val)))
      = if s = t then (1 : EReal) else 0 := by
  have hw : BitVec.setWidth 32 (IntOp.cmpi .eq (BitVec.ofNat 32 s.val) (BitVec.ofNat 32 t.val)) = if s = t then 1#32 else 0#32 := by
    revert s t
    decide
  rw [hw]
  change (((if s = t then 1#32 else 0#32 : BitVec 32).toInt : ℝ) : EReal) = _
  split <;> simp

/-- Of five products with the bits, the one of the row's type is left. -/
theorem pick (f : Fin 5 → EReal) (t : Fin 5) :
    (if 0 = t then (1 : EReal) else 0) * f 0 + (if 1 = t then (1 : EReal) else 0) * f 1 + (if 2 = t then (1 : EReal) else 0) * f 2
      + (if 3 = t then (1 : EReal) else 0) * f 3 + (if 4 = t then (1 : EReal) else 0) * f 4 = f t := by
  fin_cases t <;> simp

/-- The one-hot column picks the row's type. -/
theorem onehot_apply (h : Agrees x A t p c) (s : Fin 5) : onehotV x (ix2 s c) = if s = t then (1 : EReal) else 0 := by
  pointwise [onehotV, k1_pay2]
  rw [h.ty]
  exact bit_apply s t

/-- The same, by the name that the body computes it under. -/
theorem pay2_apply (h : Agrees x A t p c) (s : Fin 5) : k1_pay2 (x 0) (ix2 s c) = if s = t then (1 : EReal) else 0 :=
  onehot_apply h s

/-- The embedding's column is the type's. -/
theorem emb_apply (h : Agrees x A t p c) (k : Fin 16) : embV x (ix2 k c) = A.emb (ix2 t k) := by
  pointwise [embV, k1_pay3]
  simp only [pay2_apply h, h.emb, mul_ite, mul_one, mul_zero, Finset.sum_ite_eq', Finset.sum_ite_eq, Finset.mem_univ, if_true]

/-- The five products and their choice are the product with the type's matrix. -/
theorem pe_apply (h : Agrees x A t p c) (k : Fin 32) :
    k1_pay6 (x 0) (x 2) (x 1) (ix2 k c) + k1_pay7 (x 0) (ix2 0 c) * k1_pay8 (x 2) (x 1) (ix2 k c)
      = ∑ j : Fin 12, A.wpe (ix3 t k j) * p j := by
  pointwise [k1_pay6, k1_pay7, k1_pay8, k1_pay4, k1_pay5]
  simp only [pay2_apply h, h.wpe, h.par]
  exact pick (fun s => ∑ j : Fin 12, A.wpe (ix3 s k j) * p j) t

/-- The encoder's output without its last bias. -/
theorem hid_apply (h : Agrees x A t p c) (n : Fin 128) : hidV x (ix2 c n) = rowHid A t p n := by
  pointwise [hidV, k1_pay9]
  simp only [pe_apply h, onehot_apply h, emb_apply h, h.bpe, h.w1, h.b1, h.w2, h.b2, h.w3, h.b3, h.w4, mul_ite, mul_one, mul_zero,
    Finset.sum_ite_eq', Finset.sum_ite_eq, Finset.mem_univ, if_true]
  rfl

/-- The rounded digits. -/
theorem rounded_apply (h : Agrees x A t p c) (i : Fin 4) :
    k1_pay10 (hidV x) (x 11) (x 12) (x 13) (x 29) (x 30) (x 31) (ix2 i c) = rowRounded A t p i := by
  pointwise [k1_pay10]
  simp only [hid_apply h, h.b4, h.win, h.bin, h.shift, h.half, h.off, mul_comm (A.win _)]
  rfl

/-- The codes. -/
theorem codes_apply (h : Agrees x A t p c) (i : Fin 4) : codesV x (ix2 i c) = rowCode A t p i := by
  pointwise [codesV, k1_pay11]
  simp only [rounded_apply h, h.width]
  rfl

/-- The index. -/
theorem idx_apply (h : Agrees x A t p c) : idxV x (ix2 0 c) = rowIdx A t p := by
  pointwise [idxV, k1_pay12]
  simp only [rounded_apply h, h.width, h.place]
  rfl

/-- The quantised row. -/
theorem zq_apply (h : Agrees x A t p c) (n : Fin 128) : k1_pay13 (codesV x) (x 14) (x 15) (ix2 c n) = rowZq A t p n := by
  pointwise [k1_pay13]
  simp only [codes_apply h, h.wout, h.bout]
  rfl

/-- The class head. -/
theorem cls_apply (h : Agrees x A t p c) (n : Fin 5) : clsV x (ix2 n c) = rowCls A t p n := by
  pointwise [clsV, k1_pay14]
  simp only [zq_apply h, h.wc, h.bc, mul_comm (A.wc _)]
  rfl

/-- The closedness head. -/
theorem isc_apply (h : Agrees x A t p c) (n : Fin 2) : iscV x (ix2 n c) = rowIsc A t p n := by
  pointwise [iscV, k1_pay15]
  simp only [zq_apply h, h.wi, h.bi, mul_comm (A.wi _)]
  rfl

/-- The decoder's first layer. -/
theorem dec1_apply (h : Agrees x A t p c) (n : Fin 256) : dec1V x (ix2 c n) = rowD1 A t p n := by
  pointwise [dec1V, k1_pay16]
  simp only [zq_apply h, emb_apply h, h.d1, h.e1]
  rfl

/-- The reconstruction. -/
theorem recon_apply (h : Agrees x A t p c) (i : Fin 12) : reconV x (ix2 i c) = rowRecon A t p i := by
  have q0 : ∀ h, (⟨i.val / 12, h⟩ : Fin 5) = 0 := fun _ => Fin.ext (by simp)
  have q1 : ∀ h, (⟨(12 + i.val) / 12, h⟩ : Fin 5) = 1 := fun _ => Fin.ext (show (12 + i.val) / 12 = 1 by omega)
  have q2 : ∀ h, (⟨(24 + i.val) / 12, h⟩ : Fin 5) = 2 := fun _ => Fin.ext (show (24 + i.val) / 12 = 2 by omega)
  have q3 : ∀ h, (⟨(36 + i.val) / 12, h⟩ : Fin 5) = 3 := fun _ => Fin.ext (show (36 + i.val) / 12 = 3 by omega)
  have q4 : ∀ h, (⟨(48 + i.val) / 12, h⟩ : Fin 5) = 4 := fun _ => Fin.ext (show (48 + i.val) / 12 = 4 by omega)
  have r0 : ∀ h, (⟨i.val % 12, h⟩ : Fin 12) = i := fun _ => Fin.ext (show i.val % 12 = i.val by omega)
  pointwise [reconV, k1_pay1, k1_pay17]
  simp only [onehot_apply h, dec1_apply h, h.d2, h.e2, h.d3, h.e3, h.wr, h.br, mul_ite, mul_one, mul_zero,
    Finset.sum_ite_eq', Finset.sum_ite_eq, Finset.mem_univ, if_true, q0, q1, q2, q3, q4, r0]
  exact congrArg (· + A.br (ix2 t i)) (pick (fun s => ∑ k : Fin 32, A.wr (ix3 s i k) * rowD3 A t p k) t)

end Cert.Proof.Rows

end
-- ==== Proof.Arrays.lean ====
/-
  What the fused call's five results hold over the reals, row by row, where every column of every block holds a row's type
  and numbers.
-/
module

public import proofs.«01_k».proof.Proof.Blocks
public import proofs.«01_k».proof.Proof.BlockRows

@[expose] public section

set_option maxRecDepth 16384

noncomputable section

namespace Cert.Proof.Run

open Cert.KernelIdeal Cert.KernelIdeal.Gen Idealize.ShloMosaic Cert.Proof.Rows

variable (V : Valuation τ sig (Elt Ideal)) (d : Dev nD) (A : Weights) (ty : Fin 16384 → Fin 5) (p : Fin 16384 → Fin 12 → EReal)

/-- Every column of every block holds its row. -/
def AllAgree : Prop := ∀ (t : Fin cfg1.N) (c : Fin 4096), Agrees (insAt V t) A (ty (rowAt t c)) (p (rowAt t c)) c

variable {V A ty p}

/-- The region leaves in a window's array what the library computes for it. -/
theorem array_of (w : Fin 39) : afterTc V d (Proc.devRef .tc (Pipeline.arrRef spec1 w)) = (dat V d).arrAt w cfg1.N :=
  Pipeline.afterRegion_arr (cfg := Pipeline.pin pcfgs adm 0) (pdats V 0 d) V launch1.win.arr_inj w

/-- The reconstruction's array. -/
theorem array_recon (h : AllAgree V A ty p) :
    afterTc V d (Proc.devRef .tc main_v13_0) = fun i : S12x16384.Idx => rowRecon A (ty (i 1)) (p (i 1)) (i 0) := by
  refine (array_of d 34).trans ((dat V d).arrAt_eq_of_covers 34 _ (by decide +kernel) fun t _ y => ?_)
  change afterAt V t 34 (y : S12x4096.Idx) = _
  rw [afterAt_34]
  refine Eq.trans ?_ (congrArg (fun i : S12x16384.Idx => rowRecon A (ty (i 1)) (p (i 1)) (i 0)) (emb_34 t y)).symm
  exact (congrArg (reconV (insAt V t)) (ix2_of_vals rfl rfl)).trans (recon_apply (h t (y 1)) (y 0))

/-- The class head's array. -/
theorem array_cls (h : AllAgree V A ty p) :
    afterTc V d (Proc.devRef .tc main_v13_1) = fun i : S5x16384.Idx => rowCls A (ty (i 1)) (p (i 1)) (i 0) := by
  refine (array_of d 35).trans ((dat V d).arrAt_eq_of_covers 35 _ (by decide +kernel) fun t _ y => ?_)
  change afterAt V t 35 (y : S5x4096.Idx) = _
  rw [afterAt_35]
  refine Eq.trans ?_ (congrArg (fun i : S5x16384.Idx => rowCls A (ty (i 1)) (p (i 1)) (i 0)) (emb_35 t y)).symm
  exact (congrArg (clsV (insAt V t)) (ix2_of_vals rfl rfl)).trans (cls_apply (h t (y 1)) (y 0))

/-- The closedness head's array. -/
theorem array_isc (h : AllAgree V A ty p) :
    afterTc V d (Proc.devRef .tc main_v13_2) = fun i : S2x16384.Idx => rowIsc A (ty (i 1)) (p (i 1)) (i 0) := by
  refine (array_of d 36).trans ((dat V d).arrAt_eq_of_covers 36 _ (by decide +kernel) fun t _ y => ?_)
  change afterAt V t 36 (y : S2x4096.Idx) = _
  rw [afterAt_36]
  refine Eq.trans ?_ (congrArg (fun i : S2x16384.Idx => rowIsc A (ty (i 1)) (p (i 1)) (i 0)) (emb_36 t y)).symm
  exact (congrArg (iscV (insAt V t)) (ix2_of_vals rfl rfl)).trans (isc_apply (h t (y 1)) (y 0))

/-- The quantised rows' array. -/
theorem array_zq (h : AllAgree V A ty p) :
    afterTc V d (Proc.devRef .tc main_v13_3) = fun i : S16384x128.Idx => rowZq A (ty (i 0)) (p (i 0)) (i 1) := by
  refine (array_of d 37).trans ((dat V d).arrAt_eq_of_covers 37 _ (by decide +kernel) fun t _ y => ?_)
  change afterAt V t 37 (y : S4096x128.Idx) = _
  rw [afterAt_37]
  refine Eq.trans ?_ (congrArg (fun i : S16384x128.Idx => rowZq A (ty (i 0)) (p (i 0)) (i 1)) (emb_37 t y)).symm
  exact (congrArg (zqV (insAt V t)) (ix2_of_vals rfl rfl)).trans (zq_apply (h t (y 0)) (y 1))

/-- The indices' array. -/
theorem array_idx (h : AllAgree V A ty p) :
    afterTc V d (Proc.devRef .tc main_v13_4) = fun i : S1x16384.Idx => rowIdx A (ty (i 1)) (p (i 1)) := by
  refine (array_of d 38).trans ((dat V d).arrAt_eq_of_covers 38 _ (by decide +kernel) fun t _ y => ?_)
  change afterAt V t 38 (y : S1x4096.Idx) = _
  rw [afterAt_38]
  refine Eq.trans ?_ (congrArg (fun i : S1x16384.Idx => rowIdx A (ty (i 1)) (p (i 1))) (emb_38 t y)).symm
  exact (congrArg (idxV (insAt V t)) (ix2_of_vals (b := y 1) (Nat.lt_one_iff.mp (y 0).isLt) rfl)).trans (idx_apply (h t (y 1)))

end Cert.Proof.Run

end
-- ==== Proof.MainRun.lean ====
/-
  @main on the TensorCore, from the launch to the return, and the whole program's run: every unscoped buffer ends at the
  last stage's contents.
-/
module

public import proofs.«01_k».proof.Proof.Stages

@[expose] public section

noncomputable section

namespace Cert.Proof.Run

open Cert.KernelIdeal Cert.KernelIdeal.Gen Cert.Proof.Tile
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The buffers of the mask call. -/
abbrev callRefs : Finset (DevRef τ sig) := {Proc.devRef .tc main_v11, Proc.devRef .tc main_v12}

/-- They are among the buffers that the main thread holds. -/
theorem callRefs_sub : callRefs ⊆ Pipeline.ucRefs τ sig := by
  intro b hb
  rcases Finset.mem_insert.mp hb with rfl | hb
  · exact Pipeline.devRef_mem_ucRefs rfl
  · rw [Finset.mem_singleton.mp hb]
    exact Pipeline.devRef_mem_ucRefs rfl

/-- The mask call reads one buffer and writes another. -/
theorem ref_ne : (Proc.devRef .tc main_v11 : DevRef τ sig) ≠ Proc.devRef .tc main_v12 :=
  StableHlo.devRef_ne_of_ne (by decide)

omit [FloatOps F] in
/-- The types and the result out of all the buffers. -/
theorem held_call (d : Dev nD) (W : Valuation τ sig (Elt F)) :
    (StableHlo.held (T d) (Pipeline.ucRefs τ sig) W : sProp 𝕄)
      = iprop(((tLoc d ↦{fullShare} (W (Proc.devRef .tc main_v11) : Buf (Elt F) (tLoc d)))
          ∗ oLoc d ↦{fullShare} (W (Proc.devRef .tc main_v12) : Buf (Elt F) (oLoc d)))
        ∗ StableHlo.held (T d) (Pipeline.ucRefs τ sig \ callRefs) W) := by
  rw [StableHlo.held_sub_split (T d) callRefs_sub W]
  congr 1
  unfold StableHlo.held callRefs
  rw [SparseCore.bigSep_insert' (by rw [Finset.mem_singleton]; exact ref_ne), bigSep_singleton]

variable [∀ e, Nonempty (Elt F e)] (m : (ℓ : Loc nD τ sig) → Buf (Elt F) ℓ) (ρ : Dev nD → PrngReg)

/-- Putting the mask back: all the buffers, at the stage after the mask call. -/
theorem held_V2 (d : Dev nD) : (StableHlo.held (T d) (Pipeline.ucRefs τ sig) (V2 m d) : sProp 𝕄)
      = iprop(((tLoc d ↦{fullShare} (types m d : Buf (Elt F) (tLoc d)))
          ∗ oLoc d ↦{fullShare} (maskT F (types m d) : Buf (Elt F) (oLoc d)))
        ∗ StableHlo.held (T d) (Pipeline.ucRefs τ sig \ callRefs) (V1 m d)) := by
  rw [held_call]
  have h1 : V2 m d (Proc.devRef .tc main_v11) = types m d := Function.update_of_ne ref_ne _ _
  have h2 : V2 m d (Proc.devRef .tc main_v12) = maskT F (types m d) := Function.update_self _ _ _
  have h3 : (StableHlo.held (T d) (Pipeline.ucRefs τ sig \ callRefs) (V2 m d) : sProp 𝕄)
      = StableHlo.held (T d) (Pipeline.ucRefs τ sig \ callRefs) (V1 m d) := by
    unfold StableHlo.held
    refine bigSep_congr fun b hb => ?_
    have hne : b ≠ Proc.devRef .tc main_v12 := fun e => (Finset.mem_sdiff.mp hb).2 (by
      rw [e]; exact Finset.mem_insert_of_mem (Finset.mem_singleton_self _))
    rw [show V2 m d b = V1 m d b from Function.update_of_ne hne _ _]
  rw [h1, h2, h3]

/-- What @main ends holding. -/
abbrev FIN (d : Dev nD) : sProp 𝕄 := StableHlo.held (T d) (Pipeline.ucRefs τ sig) (V4 m d)

omit [FloatOps F] [∀ e, Nonempty (Elt F e)] in
/-- After the last call the TensorCore owes nothing. -/
theorem Otc_one (d : Dev nD) : (K (F := F)).Otc d 1 = 0 := by
  unfold SparseCore.Cfg.Otc
  exact Finset.sum_eq_zero fun q _ => if_neg (by omega)

omit [FloatOps F] [∀ e, Nonempty (Elt F e)] in
/-- Every wait of the TensorCore is below the last call's end. -/
theorem below_all (d : Dev nD) (W : Waits sig (HIx 1)) : (K (F := F)).WBelow (T d) W (8 * SparseCore.Cfg.Blocks.fst (Q := 1) (N := 1) 1) := by
  rintro ⟨s, ι⟩ _
  match ι with
  | none => exact Nat.zero_le _
  | some q =>
    refine ((K (F := F)).lev_some_le (T d, s) q).trans ?_
    have hq : q.val = 0 := by omega
    have h1 : SparseCore.Cfg.Blocks.fst (Q := 1) (N := 1) 1 = 1 := rfl
    rw [hq, h1]
    decide

/-- The TensorCore's state after the mask call: what it owes apart from the rest. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last (Q := 1) (N := 1) q)) 1)))

omit [FloatOps F] [∀ e, Nonempty (Elt F e)] in
/-- The main thread's state after its one SparseCore call: what it owes and waits for, beside the rest. -/
theorem tcSt_one (d : Dev nD) : ((K (F := F)).tcSt EH d ((0 : Fin 1).val + 1) : sProp 𝕄)
    = iprop((∃ W, ⌜(K (F := F)).WBelow (T d) W (8 * SparseCore.Cfg.Blocks.fst (Q := 1) (N := 1) 1)⌝ ∗ owes (T d) ((K (F := F)).Otc d 1) W) ∗ tcRest (F := F) d) := rfl

/-- @main: the operations before the calls, the mask call, the fused call, the operations behind. -/
theorem hmain (κ : GSem nD τ sig → ℕ) (d : Dev nD) :
    iprop((K (F := F)).ctx EH (P (types m) (stale m)) κ ∗ (K (F := F)).tcSt EH d 0 ∗ (K (F := F)).tcRes m ρ d ∗ tcGhost (F := F) d)
      ⊢ wp frame (wpE ((K (F := F)).defs (D (F := F))) 𝒱 (SparseCore.T d) none) Set.univ (main (F := F) d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄)
      = StableHlo.held (T d) (Pipeline.ucRefs τ sig) (StableHlo.launchContents m d) from Pipeline.unscopedBufs_held d (StableHlo.launchContents m d)]
  rw [main_eq]
  iintro ⟨#Hctx, Hst, ⟨Hb, Hh, Hts, -⟩, Hg⟩
  iapply (StableHlo.wp_seq 𝒱 none Set.univ d (Pipeline.ucRefs τ sig) _ (opsPre F) opsPre_sub opsPre_fresh (StableHlo.launchContents m d)) $$ [Hb Hh]
  · isplitl [Hb]; · iexact Hb
    iexact Hh
  iintro ⟨Hb, Hh⟩
  rw [wp_bind]
  ihave Hh := (Entails.of_eq (show (StableHlo.held d.tc (Pipeline.ucRefs τ sig) (StableHlo.after (opsPre F) (StableHlo.launchContents m d)) : sProp 𝕄)
    = StableHlo.held (T d) (Pipeline.ucRefs τ sig) (V1 m d) from rfl)) $$ Hh
  ihave Hh' := (Entails.of_eq (held_call d (V1 m d))) $$ Hh
  icases Hh' with ⟨Ht, Hrest⟩
  iapply ((K (F := F)).wp_run (D (F := F)) 𝒱 (EH := EH) (P := P (types m) (stale m)) κ d 0) $$ [Hst Ht Hrest Hb Hts Hg]
  isplitr; · iexact Hctx
  isplitl [Hst]; · iexact Hst
  isplitl [Ht]
  · iapply (Entails.of_eq (st_eq (types m) (stale m) d).symm)
    iexact Ht
  iintro ⟨Hst, Hdn⟩
  ihave Hdn' := (Entails.of_eq (dn_eq (types m) (stale m) d)) $$ Hdn
  ihave Hh := (Entails.of_eq (held_V2 m d).symm) $$ [Hdn' Hrest]
  · isplitl [Hdn']; · iexact Hdn'
    iexact Hrest
  rw [wp_bind]
  ihave Hst := (Entails.of_eq (tcSt_one (F := F) d)) $$ Hst
  icases Hst with ⟨⟨%W, -, HO⟩, Hst⟩
  ihave HO' := (Entails.of_eq (congrArg (fun O => owes (T d) O W) (Otc_one (F := F) d))) $$ HO
  ihave Hlv := ((K (F := F)).ctx_levAts κ) $$ Hctx
  ihave Hw := (region_step (V2 m d) d) $$ [Hb Hh HO' Hlv Hg]
  · isplitl [Hb]; · iexact Hb
    isplitl [Hh]; · iexact Hh
    isplitl [HO']
    · iexists W
      iexact HO'
    isplitl [Hlv]; · iexact Hlv
    iexact Hg
  iapply wp_wand $$ Hw
  iintro %_ ⟨Hb, Hh, %W', HO⟩
  iapply (StableHlo.wp_seq 𝒱 none Set.univ d (Pipeline.ucRefs τ sig) _ (opsPost F) opsPost_sub opsPost_fresh (V3 m d)) $$ [Hb Hh]
  · isplitl [Hb]; · iexact Hb
    iexact Hh
  iintro ⟨Hb, Hh⟩
  iapply (Entails.of_eq (wp_ret frame _ _ _ _).symm)
  imodintro
  isplitl [Hst HO]
  · iapply (Entails.of_eq (tcSt_one (F := F) d).symm)
    isplitr [Hst]
    · iexists W'
      isplitr
      · ipureintro
        exact below_all d W'
      iapply (Entails.of_eq (congrArg (fun O => owes (T d) O W') (Otc_one (F := F) d).symm))
      iexact HO
    iexact Hst
  isplitl [Hh]; · iexact Hh
  isplitl [Hb]; · iexact Hb
  iexact Hts

/-- In the final memory every unscoped buffer holds the last stage's contents. -/
def fq (d : Dev nD) (s' : Phys nD τ sig (Elt F)) : Prop :=
  ∀ b ∈ Pipeline.ucRefs τ sig, s'.mem.mem (d, b) = V4 m d b

/-- What the main thread holds at the end gives the final state's contents. -/
theorem hfin (d : Dev nD) (s' : Phys nD τ sig (Elt F)) : iprop(FIN m d ∗ SI s') ⊢ (⌜fq m d s'⌝ : sProp 𝕄) := by
  unfold FIN StableHlo.held fq
  iintro ⟨Hh, HSI⟩
  ihave Hr := (pointsTo_read_all (Pipeline.ucRefs τ sig) (fun b => (d, b)) (V4 m d) s') $$ [Hh HSI]
  · isplitl [Hh] <;> iassumption
  icases Hr with ⟨%h, -⟩
  ipureintro
  exact h

/-- The program's run, for any float values: every unscoped buffer of a TensorCore ends at the last stage's contents, every
    semaphore at zero. -/
theorem run_main :
    θ_run (Cert.KernelIdeal.defs (F := F)) (Cert.KernelIdeal.threads (F := F)) ⟨m, fun _ => 0, ρ⟩ (fun r =>
      (∀ (c : Dev nD) (b : Ref sig .tc), b.isScoped = false → r.2.mem ((c.tc : Thread nD τ).loc b) = V4 m c (Proc.devRef .tc b))
      ∧ r.2.sem = fun _ => 0) :=
  SparseCore.Cfg.θ_run_sc_quiescent (K := K (F := F)) (D := D (F := F)) (𝒱 := 𝒱) (EH := EH) (P := P (types m) (stale m)) (A := ∅) facts v₀
    (fun q hq => match q with | 0 => nomatch hq)
    (fun q _ => match q with | 0 => tileObl (types m) (stale m))
    (fun q _ => match q with | 0 => SparseCore.Cfg.VecSplit.of_plain (vecSplit (types m) (stale m)))
    m ρ main (fun d => tcGhost (F := F) d) (FIN m) (u₀ (F := F)) (sep_elim_left.trans (hu₀ (types m) (stale m))) (hmain m ρ) (fq m) (hfin m) _
    (fun _ h hz => ⟨fun c b hb => h c _ (Pipeline.devRef_mem_ucRefs hb), hz⟩)

end Cert.Proof.Run

end
-- ==== Proof.KernelOut.lean ====
/-
  The kernel's run over the reals: each of its six results, row by row.
-/
module

public import proofs.«01_k».proof.Proof.Arrays
public import proofs.«01_k».proof.Proof.MainRun
public import Idealize.ShloMosaic.Lib.StableHlo.ReadAt

@[expose] public section

set_option maxRecDepth 16384

noncomputable section

namespace Cert.Proof.Run

open Cert.KernelIdeal Cert.KernelIdeal.Gen Cert.Proof.Tile Cert.Proof.Rows
open Idealize.ShloMosaic Idealize.SL.Sem

/-- The weights as the kernel's arguments give them. -/
def kerWeights (W : Valuation τ sig (Elt Ideal)) : Weights where
  emb := W (Proc.devRef .tc main_arg2)
  wpe := W (Proc.devRef .tc main_arg3)
  bpe := W (Proc.devRef .tc main_arg4)
  w1 := W (Proc.devRef .tc main_arg5)
  b1 := W (Proc.devRef .tc main_arg6)
  w2 := W (Proc.devRef .tc main_arg7)
  b2 := W (Proc.devRef .tc main_arg8)
  w3 := W (Proc.devRef .tc main_arg9)
  b3 := W (Proc.devRef .tc main_arg10)
  w4 := W (Proc.devRef .tc main_arg11)
  b4 := W (Proc.devRef .tc main_arg12)
  win := W (Proc.devRef .tc main_arg13)
  bin := W (Proc.devRef .tc main_arg14)
  wout := W (Proc.devRef .tc main_arg15)
  bout := W (Proc.devRef .tc main_arg16)
  d1 := W (Proc.devRef .tc main_arg17)
  e1 := W (Proc.devRef .tc main_arg18)
  d2 := W (Proc.devRef .tc main_arg19)
  e2 := W (Proc.devRef .tc main_arg20)
  d3 := W (Proc.devRef .tc main_arg21)
  e3 := W (Proc.devRef .tc main_arg22)
  wc := W (Proc.devRef .tc main_arg23)
  bc := W (Proc.devRef .tc main_arg24)
  wi := W (Proc.devRef .tc main_arg25)
  bi := W (Proc.devRef .tc main_arg26)
  wr := W (Proc.devRef .tc main_arg27)
  br := W (Proc.devRef .tc main_arg28)

/-- The numbers of row `r`. -/
def kerNums (W : Valuation τ sig (Elt Ideal)) (r : Fin 16384) : Fin 12 → EReal :=
  fun k => (W (Proc.devRef .tc main_arg0) : FVec Ideal S16384x12 .f32) (ix2 r k)

/-- Row `r` is of type `t`. -/
def KerType (W : Valuation τ sig (Elt Ideal)) (r : Fin 16384) (t : Fin 5) : Prop :=
  (W (Proc.devRef .tc main_arg1) : IVec S16384 32) (ix1 r) = BitVec.ofNat 32 t.val

/-! ## What the host's first operations give the calls -/

section Pre

variable (W : Valuation τ sig (Elt Ideal))

/-- The types' row, -/
theorem pre_types (r : Fin 16384) : (StableHlo.after (opsPre Ideal) W (Proc.devRef .tc main_v0) : IVec S1x16384 32) (ix2 0 r)
    = (W (Proc.devRef .tc main_arg1) : IVec S16384 32) (ix1 r) := by
  unfold opsPre
  after_reads_at

/-- the list of them that the mask call reads, -/
theorem pre_list (r : Fin 16384) : (StableHlo.after (opsPre Ideal) W (Proc.devRef .tc main_v11) : IVec S16384 32) (ix1 r)
    = (W (Proc.devRef .tc main_arg1) : IVec S16384 32) (ix1 r) := by
  unfold opsPre
  after_reads_at

/-- the numbers turned, -/
theorem pre_nums (k : Fin 12) (r : Fin 16384) :
    (StableHlo.after (opsPre Ideal) W (Proc.devRef .tc main_v10) : FVec Ideal S12x16384 .f32) (ix2 k r)
      = (W (Proc.devRef .tc main_arg0) : FVec Ideal S16384x12 .f32) (ix2 r k) := by
  unfold opsPre
  after_reads_at

/-- the turned weights of the types' matrices, -/
theorem pre_wpe (s : Fin 5) (k : Fin 12) (j : Fin 32) :
    (StableHlo.after (opsPre Ideal) W (Proc.devRef .tc main_v1) : FVec Ideal S5x12x32 .f32) (ix3 s k j)
      = (W (Proc.devRef .tc main_arg3) : FVec Ideal S5x32x12 .f32) (ix3 s j k) := by
  unfold opsPre
  after_reads_at

/-- of the encoder's first layer, -/
theorem pre_w1 (k : Fin 48) (n : Fin 512) :
    (StableHlo.after (opsPre Ideal) W (Proc.devRef .tc main_v2) : FVec Ideal S48x512 .f32) (ix2 k n)
      = (W (Proc.devRef .tc main_arg5) : FVec Ideal S512x48 .f32) (ix2 n k) := by
  unfold opsPre
  after_reads_at

/-- of the quantiser's way out -/
theorem pre_wout (k : Fin 4) (n : Fin 128) :
    (StableHlo.after (opsPre Ideal) W (Proc.devRef .tc main_v3) : FVec Ideal S4x128 .f32) (ix2 k n)
      = (W (Proc.devRef .tc main_arg15) : FVec Ideal S128x4 .f32) (ix2 n k) := by
  unfold opsPre
  after_reads_at

/-- and of the decoder's first layer, -/
theorem pre_d1 (k : Fin 144) (n : Fin 256) :
    (StableHlo.after (opsPre Ideal) W (Proc.devRef .tc main_v4) : FVec Ideal S144x256 .f32) (ix2 k n)
      = (W (Proc.devRef .tc main_arg17) : FVec Ideal S256x144 .f32) (ix2 n k) := by
  unfold opsPre
  after_reads_at

/-- and the quantiser's constants: the shift, -/
theorem pre_shift (i : Fin 4) :
    (StableHlo.after (opsPre Ideal) W (Proc.devRef .tc main_v5) : FVec Ideal S4x1 .f32) (ix2 i 0) = shiftC i := by
  unfold opsPre
  after_reads_at
  fin_cases i <;> rfl

/-- the half range, -/
theorem pre_half (i : Fin 4) :
    (StableHlo.after (opsPre Ideal) W (Proc.devRef .tc main_v6) : FVec Ideal S4x1 .f32) (ix2 i 0) = halfL i := by
  unfold opsPre
  after_reads_at
  fin_cases i <;> rfl

/-- the offset, -/
theorem pre_off (i : Fin 4) :
    (StableHlo.after (opsPre Ideal) W (Proc.devRef .tc main_v7) : FVec Ideal S4x1 .f32) (ix2 i 0) = offC i := by
  unfold opsPre
  after_reads_at
  fin_cases i <;> rfl

/-- the half width -/
theorem pre_width (i : Fin 4) :
    (StableHlo.after (opsPre Ideal) W (Proc.devRef .tc main_v8) : FVec Ideal S4x1 .f32) (ix2 i 0) = halfW i := by
  unfold opsPre
  after_reads_at
  fin_cases i <;> rfl

/-- and the place value. -/
theorem pre_place (i : Fin 4) :
    (StableHlo.after (opsPre Ideal) W (Proc.devRef .tc main_v9) : FVec Ideal S4x1 .f32) (ix2 i 0) = placeC i := by
  unfold opsPre
  after_reads_at
  fin_cases i <;> rfl

end Pre

/-! ## What the host's last operations make of the calls' results -/

section Post

variable (W : Valuation τ sig (Elt Ideal)) (r : Fin 16384)

/-- The mask's bit compares the mask call's cell with one half; -/
theorem post_mask (k : Fin 12) :
    (StableHlo.after (opsPost Ideal) W (Proc.devRef .tc main_v16) : IVec S16384x12 1) (ix2 r k)
      = Ideal.cmp .ogt ((W (Proc.devRef .tc main_v12) : FVec Ideal S12x16384 .f32) (ix2 k r)) (Ideal.ofBits .f32 0x3F000000#32) := by
  unfold opsPost
  after_reads_at

/-- the reconstruction, -/
theorem post_recon (i : Fin 12) :
    (StableHlo.after (opsPost Ideal) W (Proc.devRef .tc main_v17) : FVec Ideal S16384x12 .f32) (ix2 r i)
      = (W (Proc.devRef .tc main_v13_0) : FVec Ideal S12x16384 .f32) (ix2 i r) := by
  unfold opsPost
  after_reads_at

/-- the class logits -/
theorem post_cls (n : Fin 5) :
    (StableHlo.after (opsPost Ideal) W (Proc.devRef .tc main_v18) : FVec Ideal S16384x5 .f32) (ix2 r n)
      = (W (Proc.devRef .tc main_v13_1) : FVec Ideal S5x16384 .f32) (ix2 n r) := by
  unfold opsPost
  after_reads_at

/-- and the closedness logits are turned, -/
theorem post_isc (n : Fin 2) :
    (StableHlo.after (opsPost Ideal) W (Proc.devRef .tc main_v19) : FVec Ideal S16384x2 .f32) (ix2 r n)
      = (W (Proc.devRef .tc main_v13_2) : FVec Ideal S2x16384 .f32) (ix2 n r) := by
  unfold opsPost
  after_reads_at

/-- and the indices are read as a list. -/
theorem post_idx :
    (StableHlo.after (opsPost Ideal) W (Proc.devRef .tc main_v20) : IVec S16384 32) (ix1 r)
      = (W (Proc.devRef .tc main_v13_4) : IVec S1x16384 32) (ix2 0 r) := by
  unfold opsPost
  after_reads_at

end Post

/-! ## The blocks' columns hold the rows -/

variable (m : (ℓ : Loc nD τ sig) → Buf (Elt Ideal) ℓ) (d : Dev nD)

/-- What the mask call does not write is as the host's first operations leave it, -/
theorem V2_pre (r : Ref sig .tc) (h : r ≠ main_v12) :
    V2 m d (Proc.devRef .tc r) = StableHlo.after (opsPre Ideal) (StableHlo.launchContents m d) (Proc.devRef .tc r) :=
  Function.update_of_ne (StableHlo.devRef_ne_of_ne h) _ _

/-- and an argument as it was at the launch. -/
theorem V2_arg (r : Ref sig .tc) (h : r ≠ main_v12) (h' : r ∉ wPre) :
    V2 m d (Proc.devRef .tc r) = StableHlo.launchContents m d (Proc.devRef .tc r) :=
  (V2_pre m d r h).trans (afterPre_keeps _ h')

variable {ty : Fin 16384 → Fin 5} (hty : ∀ r, KerType (StableHlo.launchContents m d) r (ty r))
include hty

set_option maxHeartbeats 2000000 in
/-- Every column of every block holds its row's type and numbers, and the weights beside them. -/
theorem all_agree : AllAgree (V2 m d) (kerWeights (StableHlo.launchContents m d)) ty (kerNums (StableHlo.launchContents m d)) := fun t c => {
  ty := (ins_types (V2 m d) t c).trans ((congrFun (V2_pre m d main_v0 (by decide)) _).trans ((pre_types _ _).trans (hty _)))
  par k := (ins_nums (V2 m d) t k c).trans ((congrFun (V2_pre m d main_v10 (by decide)) _).trans (pre_nums _ _ _))
  wpe s k j := (show insAt (V2 m d) t 2 (ix3 s k j) = V2 m d (Proc.devRef .tc main_v1) (ix3 s k j) from congrArg (V2 m d (Proc.devRef .tc main_v1)) (emb_whole t (index_whole t 2 (by decide) (by decide)) _ (ix3 s k j) fun _ => rfl)).trans ((congrFun (V2_pre m d main_v1 (by decide)) _).trans (pre_wpe _ _ _ _))
  w1 k n := (show insAt (V2 m d) t 4 (ix2 k n) = V2 m d (Proc.devRef .tc main_v2) (ix2 k n) from congrArg (V2 m d (Proc.devRef .tc main_v2)) (emb_whole t (index_whole t 4 (by decide) (by decide)) _ (ix2 k n) fun _ => rfl)).trans ((congrFun (V2_pre m d main_v2 (by decide)) _).trans (pre_w1 _ _ _))
  wout k n := (show insAt (V2 m d) t 14 (ix2 k n) = V2 m d (Proc.devRef .tc main_v3) (ix2 k n) from congrArg (V2 m d (Proc.devRef .tc main_v3)) (emb_whole t (index_whole t 14 (by decide) (by decide)) _ (ix2 k n) fun _ => rfl)).trans ((congrFun (V2_pre m d main_v3 (by decide)) _).trans (pre_wout _ _ _))
  d1 k n := (show insAt (V2 m d) t 20 (ix2 k n) = V2 m d (Proc.devRef .tc main_v4) (ix2 k n) from congrArg (V2 m d (Proc.devRef .tc main_v4)) (emb_whole t (index_whole t 20 (by decide) (by decide)) _ (ix2 k n) fun _ => rfl)).trans ((congrFun (V2_pre m d main_v4 (by decide)) _).trans (pre_d1 _ _ _))
  shift i := (show insAt (V2 m d) t 29 (ix2 i 0) = V2 m d (Proc.devRef .tc main_v5) (ix2 i 0) from congrArg (V2 m d (Proc.devRef .tc main_v5)) (emb_whole t (index_whole t 29 (by decide) (by decide)) _ (ix2 i 0) fun _ => rfl)).trans ((congrFun (V2_pre m d main_v5 (by decide)) _).trans (pre_shift _ _))
  half i := (show insAt (V2 m d) t 30 (ix2 i 0) = V2 m d (Proc.devRef .tc main_v6) (ix2 i 0) from congrArg (V2 m d (Proc.devRef .tc main_v6)) (emb_whole t (index_whole t 30 (by decide) (by decide)) _ (ix2 i 0) fun _ => rfl)).trans ((congrFun (V2_pre m d main_v6 (by decide)) _).trans (pre_half _ _))
  off i := (show insAt (V2 m d) t 31 (ix2 i 0) = V2 m d (Proc.devRef .tc main_v7) (ix2 i 0) from congrArg (V2 m d (Proc.devRef .tc main_v7)) (emb_whole t (index_whole t 31 (by decide) (by decide)) _ (ix2 i 0) fun _ => rfl)).trans ((congrFun (V2_pre m d main_v7 (by decide)) _).trans (pre_off _ _))
  width i := (show insAt (V2 m d) t 32 (ix2 i 0) = V2 m d (Proc.devRef .tc main_v8) (ix2 i 0) from congrArg (V2 m d (Proc.devRef .tc main_v8)) (emb_whole t (index_whole t 32 (by decide) (by decide)) _ (ix2 i 0) fun _ => rfl)).trans ((congrFun (V2_pre m d main_v8 (by decide)) _).trans (pre_width _ _))
  place i := (show insAt (V2 m d) t 33 (ix2 i 0) = V2 m d (Proc.devRef .tc main_v9) (ix2 i 0) from congrArg (V2 m d (Proc.devRef .tc main_v9)) (emb_whole t (index_whole t 33 (by decide) (by decide)) _ (ix2 i 0) fun _ => rfl)).trans ((congrFun (V2_pre m d main_v9 (by decide)) _).trans (pre_place _ _))
  bpe n k := (show insAt (V2 m d) t 3 (ix2 n k) = V2 m d (Proc.devRef .tc main_arg4) (ix2 n k) from congrArg (V2 m d (Proc.devRef .tc main_arg4)) (emb_whole t (index_whole t 3 (by decide) (by decide)) _ (ix2 n k) fun _ => rfl)).trans (congrFun (V2_arg m d main_arg4 (by decide) (by decide)) (ix2 n k))
  b1 n := (show insAt (V2 m d) t 5 (ix1 n) = V2 m d (Proc.devRef .tc main_arg6) (ix1 n) from congrArg (V2 m d (Proc.devRef .tc main_arg6)) (emb_whole t (index_whole t 5 (by decide) (by decide)) _ (ix1 n) fun _ => rfl)).trans (congrFun (V2_arg m d main_arg6 (by decide) (by decide)) (ix1 n))
  w2 n k := (show insAt (V2 m d) t 6 (ix2 n k) = V2 m d (Proc.devRef .tc main_arg7) (ix2 n k) from congrArg (V2 m d (Proc.devRef .tc main_arg7)) (emb_whole t (index_whole t 6 (by decide) (by decide)) _ (ix2 n k) fun _ => rfl)).trans (congrFun (V2_arg m d main_arg7 (by decide) (by decide)) (ix2 n k))
  b2 n := (show insAt (V2 m d) t 7 (ix1 n) = V2 m d (Proc.devRef .tc main_arg8) (ix1 n) from congrArg (V2 m d (Proc.devRef .tc main_arg8)) (emb_whole t (index_whole t 7 (by decide) (by decide)) _ (ix1 n) fun _ => rfl)).trans (congrFun (V2_arg m d main_arg8 (by decide) (by decide)) (ix1 n))
  w3 n k := (show insAt (V2 m d) t 8 (ix2 n k) = V2 m d (Proc.devRef .tc main_arg9) (ix2 n k) from congrArg (V2 m d (Proc.devRef .tc main_arg9)) (emb_whole t (index_whole t 8 (by decide) (by decide)) _ (ix2 n k) fun _ => rfl)).trans (congrFun (V2_arg m d main_arg9 (by decide) (by decide)) (ix2 n k))
  b3 n := (show insAt (V2 m d) t 9 (ix1 n) = V2 m d (Proc.devRef .tc main_arg10) (ix1 n) from congrArg (V2 m d (Proc.devRef .tc main_arg10)) (emb_whole t (index_whole t 9 (by decide) (by decide)) _ (ix1 n) fun _ => rfl)).trans (congrFun (V2_arg m d main_arg10 (by decide) (by decide)) (ix1 n))
  w4 n k := (show insAt (V2 m d) t 10 (ix2 n k) = V2 m d (Proc.devRef .tc main_arg11) (ix2 n k) from congrArg (V2 m d (Proc.devRef .tc main_arg11)) (emb_whole t (index_whole t 10 (by decide) (by decide)) _ (ix2 n k) fun _ => rfl)).trans (congrFun (V2_arg m d main_arg11 (by decide) (by decide)) (ix2 n k))
  b4 n := (show insAt (V2 m d) t 11 (ix1 n) = V2 m d (Proc.devRef .tc main_arg12) (ix1 n) from congrArg (V2 m d (Proc.devRef .tc main_arg12)) (emb_whole t (index_whole t 11 (by decide) (by decide)) _ (ix1 n) fun _ => rfl)).trans (congrFun (V2_arg m d main_arg12 (by decide) (by decide)) (ix1 n))
  win n k := (show insAt (V2 m d) t 12 (ix2 n k) = V2 m d (Proc.devRef .tc main_arg13) (ix2 n k) from congrArg (V2 m d (Proc.devRef .tc main_arg13)) (emb_whole t (index_whole t 12 (by decide) (by decide)) _ (ix2 n k) fun _ => rfl)).trans (congrFun (V2_arg m d main_arg13 (by decide) (by decide)) (ix2 n k))
  bin n := (show insAt (V2 m d) t 13 (ix1 n) = V2 m d (Proc.devRef .tc main_arg14) (ix1 n) from congrArg (V2 m d (Proc.devRef .tc main_arg14)) (emb_whole t (index_whole t 13 (by decide) (by decide)) _ (ix1 n) fun _ => rfl)).trans (congrFun (V2_arg m d main_arg14 (by decide) (by decide)) (ix1 n))
  bout n := (show insAt (V2 m d) t 15 (ix1 n) = V2 m d (Proc.devRef .tc main_arg16) (ix1 n) from congrArg (V2 m d (Proc.devRef .tc main_arg16)) (emb_whole t (index_whole t 15 (by decide) (by decide)) _ (ix1 n) fun _ => rfl)).trans (congrFun (V2_arg m d main_arg16 (by decide) (by decide)) (ix1 n))
  wc n k := (show insAt (V2 m d) t 16 (ix2 n k) = V2 m d (Proc.devRef .tc main_arg23) (ix2 n k) from congrArg (V2 m d (Proc.devRef .tc main_arg23)) (emb_whole t (index_whole t 16 (by decide) (by decide)) _ (ix2 n k) fun _ => rfl)).trans (congrFun (V2_arg m d main_arg23 (by decide) (by decide)) (ix2 n k))
  bc n := (show insAt (V2 m d) t 17 (ix1 n) = V2 m d (Proc.devRef .tc main_arg24) (ix1 n) from congrArg (V2 m d (Proc.devRef .tc main_arg24)) (emb_whole t (index_whole t 17 (by decide) (by decide)) _ (ix1 n) fun _ => rfl)).trans (congrFun (V2_arg m d main_arg24 (by decide) (by decide)) (ix1 n))
  wi n k := (show insAt (V2 m d) t 18 (ix2 n k) = V2 m d (Proc.devRef .tc main_arg25) (ix2 n k) from congrArg (V2 m d (Proc.devRef .tc main_arg25)) (emb_whole t (index_whole t 18 (by decide) (by decide)) _ (ix2 n k) fun _ => rfl)).trans (congrFun (V2_arg m d main_arg25 (by decide) (by decide)) (ix2 n k))
  bi n := (show insAt (V2 m d) t 19 (ix1 n) = V2 m d (Proc.devRef .tc main_arg26) (ix1 n) from congrArg (V2 m d (Proc.devRef .tc main_arg26)) (emb_whole t (index_whole t 19 (by decide) (by decide)) _ (ix1 n) fun _ => rfl)).trans (congrFun (V2_arg m d main_arg26 (by decide) (by decide)) (ix1 n))
  e1 n := (show insAt (V2 m d) t 21 (ix1 n) = V2 m d (Proc.devRef .tc main_arg18) (ix1 n) from congrArg (V2 m d (Proc.devRef .tc main_arg18)) (emb_whole t (index_whole t 21 (by decide) (by decide)) _ (ix1 n) fun _ => rfl)).trans (congrFun (V2_arg m d main_arg18 (by decide) (by decide)) (ix1 n))
  d2 n k := (show insAt (V2 m d) t 22 (ix2 n k) = V2 m d (Proc.devRef .tc main_arg19) (ix2 n k) from congrArg (V2 m d (Proc.devRef .tc main_arg19)) (emb_whole t (index_whole t 22 (by decide) (by decide)) _ (ix2 n k) fun _ => rfl)).trans (congrFun (V2_arg m d main_arg19 (by decide) (by decide)) (ix2 n k))
  e2 n := (show insAt (V2 m d) t 23 (ix1 n) = V2 m d (Proc.devRef .tc main_arg20) (ix1 n) from congrArg (V2 m d (Proc.devRef .tc main_arg20)) (emb_whole t (index_whole t 23 (by decide) (by decide)) _ (ix1 n) fun _ => rfl)).trans (congrFun (V2_arg m d main_arg20 (by decide) (by decide)) (ix1 n))
  d3 n k := (show insAt (V2 m d) t 24 (ix2 n k) = V2 m d (Proc.devRef .tc main_arg21) (ix2 n k) from congrArg (V2 m d (Proc.devRef .tc main_arg21)) (emb_whole t (index_whole t 24 (by decide) (by decide)) _ (ix2 n k) fun _ => rfl)).trans (congrFun (V2_arg m d main_arg21 (by decide) (by decide)) (ix2 n k))
  e3 n := (show insAt (V2 m d) t 25 (ix1 n) = V2 m d (Proc.devRef .tc main_arg22) (ix1 n) from congrArg (V2 m d (Proc.devRef .tc main_arg22)) (emb_whole t (index_whole t 25 (by decide) (by decide)) _ (ix1 n) fun _ => rfl)).trans (congrFun (V2_arg m d main_arg22 (by decide) (by decide)) (ix1 n))
  wr s i k := (show insAt (V2 m d) t 26 (ix3 s i k) = V2 m d (Proc.devRef .tc main_arg27) (ix3 s i k) from congrArg (V2 m d (Proc.devRef .tc main_arg27)) (emb_whole t (index_whole t 26 (by decide) (by decide)) _ (ix3 s i k) fun _ => rfl)).trans (congrFun (V2_arg m d main_arg27 (by decide) (by decide)) (ix3 s i k))
  br n k := (show insAt (V2 m d) t 27 (ix2 n k) = V2 m d (Proc.devRef .tc main_arg28) (ix2 n k) from congrArg (V2 m d (Proc.devRef .tc main_arg28)) (emb_whole t (index_whole t 27 (by decide) (by decide)) _ (ix2 n k) fun _ => rfl)).trans (congrFun (V2_arg m d main_arg28 (by decide) (by decide)) (ix2 n k))
  emb n k := (show insAt (V2 m d) t 28 (ix2 n k) = V2 m d (Proc.devRef .tc main_arg2) (ix2 n k) from congrArg (V2 m d (Proc.devRef .tc main_arg2)) (emb_whole t (index_whole t 28 (by decide) (by decide)) _ (ix2 n k) fun _ => rfl)).trans (congrFun (V2_arg m d main_arg2 (by decide) (by decide)) (ix2 n k))
}

end Cert.Proof.Run

end
-- ==== Proof.Frames.lean ====
/-
  The frames of the kernel: over the words and over the reals every argument is as it was when the run ends.
-/
module

public import proofs.«01_k».proof.Proof.MainRun
public import proofs.«01_k».proof.Defs
public import proofs.«01_k».proof.Proof.Gen.Kernel
public import proofs.«01_k».proof.Proof.Gen.Pre_types_in_range

@[expose] public section

noncomputable section

namespace Cert.Proof.Run

open Cert.KernelIdeal Cert.KernelIdeal.Gen
open Idealize.ShloMosaic Idealize.SL.Sem

variable {F : FTy → Type} [FloatOps F] [∀ e, Nonempty (Elt F e)] (m : (ℓ : Loc nD τ sig) → Buf (Elt F) ℓ)

/-- A buffer that no host operation and no call writes keeps its launch contents. -/
theorem V4_keeps (d : Dev nD) (r : Ref sig .tc) (h1 : r ∉ wPre) (h2 : r ∉ wPost) (h3 : r ≠ main_v12)
    (h4 : ∀ w, Pipeline.arrRef spec1 w = r → (cfg1.win w).isOut = false) :
    V4 m d (Proc.devRef .tc r) = m ((d.tc : Thread nD τ).loc r) := by
  refine (afterPost_keeps (V3 m d) h2).trans ?_
  refine (Pipeline.afterRegion_keeps (cfg := Pipeline.pin pcfgs adm 0) (pdats (V2 m d) 0 d) (V2 m d) launch1.win.arr_inj (fun w => rfl) r h4).trans ?_
  refine (Function.update_of_ne (StableHlo.devRef_ne_of_ne h3) _ _).trans ?_
  exact afterPre_keeps (StableHlo.launchContents m d) h1

/-- The arguments. -/
abbrev argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28]

/-- Nothing of the program writes an argument: no host operation, neither call. -/
theorem args_unwritten : ∀ r ∈ argRefs, r.isScoped = false ∧ r ∉ wPre ∧ r ∉ wPost ∧ r ≠ main_v12
    ∧ ∀ w, Pipeline.arrRef spec1 w = r → (cfg1.win w).isOut = false := by
  decide

/-- Every argument is kept. -/
theorem V4_arg (d : Dev nD) (r : Ref sig .tc) (h : r ∈ argRefs) : V4 m d (Proc.devRef .tc r) = m ((d.tc : Thread nD τ).loc r) :=
  have h' := args_unwritten r h
  V4_keeps m d r h'.2.1 h'.2.2.1 h'.2.2.2.1 h'.2.2.2.2

/-- The run with the values dropped: the arguments kept, the semaphores at zero. -/
theorem run_args (ρ : Dev nD → PrngReg) :
    θ_run (Cert.KernelIdeal.defs (F := F)) (Cert.KernelIdeal.threads (F := F)) ⟨m, fun _ => 0, ρ⟩ (fun r =>
      (∀ c : Dev nD, ∀ b ∈ argRefs, r.2.mem ((c.tc : Thread nD τ).loc b) = m ((c.tc : Thread nD τ).loc b)) ∧ r.2.sem = fun _ => 0) :=
  (θ_run Cert.KernelIdeal.defs _ _).mono
    (fun _ h => ⟨fun c b hb => (h.1 c b (args_unwritten b hb).1).trans (V4_arg m c b hb), h.2⟩) (run_main m ρ)

/-- The frame over the reals, -/
theorem frame_ideal : Cert.quiescent_KernelIdeal := fun m ρ _ =>
  (θ_run Cert.KernelIdeal.defs _ _).mono (fun _ h => ⟨fun c => by
    have hc := h.1 c
    refine ⟨?_, ?_, ?_, ?_, ?_, ?_, ?_, ?_, ?_, ?_, ?_, ?_, ?_, ?_, ?_, ?_, ?_, ?_, ?_, ?_, ?_, ?_, ?_, ?_, ?_, ?_, ?_, ?_, ?_⟩ <;>
      exact hc _ (by decide), h.2⟩) (run_args (F := Ideal) m ρ)

/-- under the precondition too. -/
theorem frame_ideal_pre : Cert.quiescent_KernelIdeal_pre_types_in_range := fun m ρ _ => frame_ideal m ρ trivial

/-- The program printed for the words and the program printed for the ideal instance are one
program: a run of the first is a run of the second. -/
theorem run_words (m : (ℓ : Loc Cert.Kernel.nD Cert.Kernel.τ Cert.Kernel.sig) → Buf (Elt Bits) ℓ)
    (ρ : Dev Cert.Kernel.nD → PrngReg) (Q) :
    @Eq Prop
      (θ_run (Cert.Kernel.defs (F := Bits)) (Cert.Kernel.threads (F := Bits)) ⟨m, fun _ => 0, ρ⟩ Q)
      (θ_run (Cert.KernelIdeal.defs (F := Bits)) (Cert.KernelIdeal.threads (F := Bits))
        ⟨m, fun _ => 0, ρ⟩ Q) := by
  sl_kernel_rfl

/-- The run over the words: the arguments are kept and every counter is zero at the end. -/
theorem run_args_words (m : (ℓ : Loc Cert.Kernel.nD Cert.Kernel.τ Cert.Kernel.sig) → Buf (Elt Bits) ℓ)
    (ρ : Dev Cert.Kernel.nD → PrngReg) :
    θ_run (Cert.Kernel.defs (F := Bits)) (Cert.Kernel.threads (F := Bits)) ⟨m, fun _ => 0, ρ⟩
      (fun r => (∀ (c : Dev nD) (b : Ref sig .tc), b ∈ argRefs →
          r.2.mem ((c.tc : Thread nD τ).loc b) = m ((c.tc : Thread nD τ).loc b))
        ∧ r.2.sem = fun _ => 0) :=
  Eq.mpr (run_words m ρ _) (run_args (F := Bits) m ρ)

/-- The frame over the words. -/
theorem frame_kernel : Cert.quiescent_Kernel := fun m ρ _ =>
  (θ_run Cert.Kernel.defs _ _).mono (fun _ h => ⟨fun c => by
    have hc := h.1 c
    refine ⟨?_, ?_, ?_, ?_, ?_, ?_, ?_, ?_, ?_, ?_, ?_, ?_, ?_, ?_, ?_, ?_, ?_, ?_, ?_, ?_, ?_, ?_, ?_, ?_, ?_, ?_, ?_, ?_, ?_⟩ <;>
      exact hc _ (by decide), h.2⟩) (run_args_words m ρ)

end Cert.Proof.Run

end
-- ==== Proof.RowReal.lean ====
/-
  The row's bounded numbers are real numbers, whatever the weights and the row hold: a hyperbolic tangent times one
  finite constant less another. So the reference's straight-through sum is the rounding, and its code times the width
  is the rounding again.
-/
module

public import proofs.«01_k».proof.Proof.Rows

@[expose] public section

noncomputable section

namespace Cert.Proof.Rows

open Idealize.ShloMosaic

/-- A pattern whose exponent is not all ones denotes a real number. -/
theorem finite_pattern (b : BitVec 32) (h : (b.extractLsb' 23 8).toNat ≠ 255) : ∃ r : ℝ, Ideal.ofBits .f32 b = (r : EReal) := by
  by_cases h0 : (b.extractLsb' 23 8).toNat = 0
  · exact ⟨_, (if_neg h).trans (if_pos h0)⟩
  · exact ⟨_, (if_neg h).trans (if_neg h0)⟩

/-- The half range is real, -/
theorem halfL_real (i : Fin 4) : ∃ r : ℝ, halfL i = (r : EReal) :=
  finite_pattern _ (by revert i; decide)

/-- the offset -/
theorem offC_real (i : Fin 4) : ∃ r : ℝ, offC i = (r : EReal) :=
  finite_pattern _ (by revert i; decide)

/-- and a hyperbolic tangent, at an infinity too. -/
theorem tanh_real (x : EReal) : ∃ r : ℝ, Ideal.tanh x = (r : EReal) := by
  induction x with
  | bot => exact ⟨-1, by simp⟩
  | top => exact ⟨1, by simp⟩
  | coe r => exact ⟨Real.tanh r, by simp⟩

/-- The half width is four for the first digit and two for the others. -/
theorem halfW_eq (i : Fin 4) : ∃ r : ℝ, r ≠ 0 ∧ halfW i = (r : EReal) := by
  have h4 : Ideal.ofBits .f32 (0x40800000#32) = ((4 : ℝ) : EReal) := by
    simp [Ideal.ofBits, Ideal.ieee, -EReal.coe_mul]; norm_num
  have h2 : Ideal.ofBits .f32 (0x40000000#32) = ((2 : ℝ) : EReal) := by
    simp [Ideal.ofBits, Ideal.ieee, -EReal.coe_mul]; norm_num
  fin_cases i
  · exact ⟨4, by norm_num, h4⟩
  all_goals exact ⟨2, by norm_num, h2⟩

/-- The mask's threshold is one half. -/
theorem half_pattern : Ideal.ofBits .f32 (0x3F000000#32) = ((1 / 2 : ℝ) : EReal) := by
  simp [Ideal.ofBits, Ideal.ieee, -EReal.coe_mul]; norm_num

variable (A : Weights) (t : Fin 5) (p : Fin 12 → EReal)

/-- A row's bounded numbers are real. -/
theorem bounded_real (i : Fin 4) : ∃ b : ℝ, rowBounded A t p i = (b : EReal) := by
  obtain ⟨l, hl⟩ := halfL_real i
  obtain ⟨o, ho⟩ := offC_real i
  unfold rowBounded
  obtain ⟨s, hs⟩ := tanh_real ((∑ k : Fin 128, rowZ A t p k * A.win (ix2 i k)) + A.bin (ix1 i) + shiftC i)
  exact ⟨s * l - o, by rw [hs, hl, ho]; norm_cast⟩

/-- The straight-through sum is the rounding. -/
theorem straight_through (i : Fin 4) :
    rowBounded A t p i + (rowRounded A t p i - rowBounded A t p i) = rowRounded A t p i := by
  obtain ⟨b, hb⟩ := bounded_real A t p i
  unfold rowRounded
  rw [hb]
  change (b : EReal) + (((Ideal.roundHalfEven b : ℝ) : EReal) - (b : EReal)) = ((Ideal.roundHalfEven b : ℝ) : EReal)
  norm_cast
  ring_nf

/-- A digit's code times its width is the rounding. -/
theorem code_mul (i : Fin 4) : rowCode A t p i * halfW i = rowRounded A t p i := by
  obtain ⟨b, hb⟩ := bounded_real A t p i
  obtain ⟨w, hw, he⟩ := halfW_eq i
  unfold rowCode rowRounded
  rw [hb, he, Ideal.div_coe hw]
  change ((Ideal.roundHalfEven b : ℝ) : EReal) * ((1 / w : ℝ) : EReal) * (w : EReal) = ((Ideal.roundHalfEven b : ℝ) : EReal)
  norm_cast
  field_simp

end Cert.Proof.Rows

end
-- ==== Proof.KernelRun.lean ====
/-
  The kernel's run over the reals, result by result: each of the six arrays as a function of the launch's weights, types
  and numbers, and the arguments kept.
-/
module

public import proofs.«01_k».proof.Proof.KernelOut
public import proofs.«01_k».proof.Proof.Frames
public import proofs.«01_k».proof.Proof.RowReal

@[expose] public section

set_option maxRecDepth 16384

noncomputable section

namespace Cert.Proof.Run

open Cert.KernelIdeal Cert.KernelIdeal.Gen Cert.Proof.Tile Cert.Proof.Rows
open Idealize.ShloMosaic Idealize.ShloMosaic.StableHlo Idealize.SL.Sem

/-- The mask's cell is one where the row's type uses the number and zero elsewhere. -/
theorem cell_eq (t : Fin 5) (k : Fin 12) :
    IntOp.minsi (IntOp.maxsi (IntOp.subi (width1 (BitVec.ofNat 32 t.val)) (BitVec.ofNat 32 k.val)) 0#32) 1#32 = (rowMask t k).zeroExtend 32 := by
  revert t k
  decide +kernel

/-- A bit read as a number is above one half where it is set. -/
theorem above_half (b : BitVec 1) : Ideal.cmp .ogt (((b.zeroExtend 32).toInt : ℝ) : EReal) (Ideal.ofBits .f32 0x3F000000#32) = b := by
  rw [half_pattern]
  rcases BitVec.eq_zero_or_eq_one b with rfl | rfl
  · have h : ¬ (((1 / 2 : ℝ) : EReal) < (((0 : ℤ) : ℝ) : EReal)) := by
      rw [EReal.coe_lt_coe_iff]; norm_num
    exact congrArg BitVec.ofBool (decide_eq_false h)
  · have h : ((1 / 2 : ℝ) : EReal) < (((1 : ℤ) : ℝ) : EReal) := by
      rw [EReal.coe_lt_coe_iff]; norm_num
    exact congrArg BitVec.ofBool (decide_eq_true h)

/-- So the mask's bit is the cell compared with one half. -/
theorem mask_bit (t : Fin 5) (k : Fin 12) :
    Ideal.cmp .ogt (cell1 Ideal (BitVec.ofNat 32 t.val) k.val) (Ideal.ofBits .f32 0x3F000000#32) = rowMask t k := by
  refine Eq.trans (congrArg (fun x => Ideal.cmp .ogt x (Ideal.ofBits .f32 0x3F000000#32)) ?_) (above_half (rowMask t k))
  exact congrArg (fun z : BitVec 32 => ((z.toInt : ℝ) : EReal)) (cell_eq t k)

variable (m : (ℓ : Loc nD τ sig) → Buf (Elt Ideal) ℓ) (d : Dev nD)
variable {ty : Fin 16384 → Fin 5} (hty : ∀ r, KerType (launchContents m d) r (ty r))

/-- The fused call leaves the mask's array as the mask call wrote it. -/
theorem V3_mask : V3 m d (Proc.devRef .tc main_v12) = maskT Ideal (types m d) :=
  (Pipeline.afterRegion_keeps (cfg := Pipeline.pin pcfgs adm 0) (pdats (V2 m d) 0 d) (V2 m d) launch1.win.arr_inj (fun w => rfl) main_v12
    (by decide)).trans (Function.update_self _ _ _)

include hty

/-- The mask. -/
theorem V4_mask (r : Fin 16384) (k : Fin 12) : (V4 m d (Proc.devRef .tc main_v16) : IVec S16384x12 1) (ix2 r k) = rowMask (ty r) k := by
  refine (post_mask (V3 m d) r k).trans ?_
  rw [V3_mask]
  refine Eq.trans ?_ (mask_bit (ty r) k)
  exact congrArg (fun x => Ideal.cmp .ogt (cell1 Ideal x k.val) (Ideal.ofBits .f32 0x3F000000#32)) ((pre_list _ r).trans (hty r))

/-- The reconstruction. -/
theorem V4_recon (r : Fin 16384) (i : Fin 12) : (V4 m d (Proc.devRef .tc main_v17) : FVec Ideal S16384x12 .f32) (ix2 r i)
    = rowRecon (kerWeights (launchContents m d)) (ty r) (kerNums (launchContents m d) r) i :=
  (post_recon (V3 m d) r i).trans (congrFun (array_recon d (all_agree m d hty)) (ix2 i r))

/-- The class head. -/
theorem V4_cls (r : Fin 16384) (n : Fin 5) : (V4 m d (Proc.devRef .tc main_v18) : FVec Ideal S16384x5 .f32) (ix2 r n)
    = rowCls (kerWeights (launchContents m d)) (ty r) (kerNums (launchContents m d) r) n :=
  (post_cls (V3 m d) r n).trans (congrFun (array_cls d (all_agree m d hty)) (ix2 n r))

/-- The closedness head. -/
theorem V4_isc (r : Fin 16384) (n : Fin 2) : (V4 m d (Proc.devRef .tc main_v19) : FVec Ideal S16384x2 .f32) (ix2 r n)
    = rowIsc (kerWeights (launchContents m d)) (ty r) (kerNums (launchContents m d) r) n :=
  (post_isc (V3 m d) r n).trans (congrFun (array_isc d (all_agree m d hty)) (ix2 n r))

/-- The quantised rows. -/
theorem V4_zq (r : Fin 16384) (n : Fin 128) : (V4 m d (Proc.devRef .tc main_v13_3) : FVec Ideal S16384x128 .f32) (ix2 r n)
    = rowZq (kerWeights (launchContents m d)) (ty r) (kerNums (launchContents m d) r) n :=
  (congrFun (afterPost_keeps (V3 m d) (show main_v13_3 ∉ wPost by decide)) (ix2 r n)).trans (congrFun (array_zq d (all_agree m d hty)) (ix2 r n))

/-- The indices. -/
theorem V4_idx (r : Fin 16384) : (V4 m d (Proc.devRef .tc main_v20) : IVec S16384 32) (ix1 r)
    = rowIdx (kerWeights (launchContents m d)) (ty r) (kerNums (launchContents m d) r) :=
  (post_idx (V3 m d) r).trans (congrFun (array_idx d (all_agree m d hty)) (ix2 0 r))

end Cert.Proof.Run

end
-- ==== Proof.RefTake.lean ====
/-
  What the reference's look-ups read: the table's entries at a row's type, where the type is one of the five.
-/
module

public import proofs.«01_k».proof.Proof.Rows

@[expose] public section

noncomputable section

namespace Cert.Proof.Rows

open Idealize.ShloMosaic

/-- The column of the types. -/
abbrev Col : Shape := ⟨2, ![16384, 1]⟩

/-- A look-up in a list of five, -/
abbrev listDims (wf : GatherDims.WF ⟨1, ![5]⟩ Col ⟨1, ![16384]⟩ [] [0] [] [0] [] 1 ![1]) :
    GatherDims ⟨1, ![5]⟩ Col ⟨1, ![16384]⟩ where
  offsetDims := []
  collapsedSliceDims := [0]
  operandBatchingDims := []
  startIndicesBatchingDims := []
  startIndexMap := [0]
  indexVectorDim := 1
  sliceSizes := ![1]
  wf := wf

/-- in a table of five rows, -/
abbrev tableDims (n : ℕ) (wf : GatherDims.WF ⟨2, ![5, n]⟩ Col ⟨2, ![16384, n]⟩ [1] [0] [] [0] [] 1 ![1, n]) :
    GatherDims ⟨2, ![5, n]⟩ Col ⟨2, ![16384, n]⟩ where
  offsetDims := [1]
  collapsedSliceDims := [0]
  operandBatchingDims := []
  startIndicesBatchingDims := []
  startIndexMap := [0]
  indexVectorDim := 1
  sliceSizes := ![1, n]
  wf := wf

/-- in a stack of five matrices. -/
abbrev stackDims (l n : ℕ) (wf : GatherDims.WF ⟨3, ![5, l, n]⟩ Col ⟨3, ![16384, l, n]⟩ [1, 2] [0] [] [0] [] 1 ![1, l, n]) :
    GatherDims ⟨3, ![5, l, n]⟩ Col ⟨3, ![16384, l, n]⟩ where
  offsetDims := [1, 2]
  collapsedSliceDims := [0]
  operandBatchingDims := []
  startIndicesBatchingDims := []
  startIndexMap := [0]
  indexVectorDim := 1
  sliceSizes := ![1, l, n]
  wf := wf

/-- One of the five types, read signed and kept below five, is itself. -/
theorem clamp_type (t : Fin 5) : min (BitVec.ofNat 32 t.val).toInt.toNat 4 = t.val := by
  revert t
  decide

variable {α : Type} {I : IVec Col 32} {r : Fin 16384} {t : Fin 5}

/-- The list's entry at the row's type. -/
theorem take_list (wf) (X : (⟨1, ![5]⟩ : Shape).Idx → α) (h : I (ix2 r 0) = BitVec.ofNat 32 t.val) :
    Host.gather (listDims wf) X I (ix1 r) = X (ix1 t) := by
  have hs : ∀ z, (listDims wf).siIdx (ix1 r) z = ix2 r 0 := fun z => by
    have hz : z.val < 1 := z.isLt
    funext b
    match b with
    | ⟨0, _⟩ => rfl
    | ⟨1, _⟩ => exact Fin.ext (show z.val = 0 by omega)
  refine congrArg X (funext fun a => Fin.ext ?_)
  match a with
  | ⟨0, _⟩ =>
    change min (I ((listDims wf).siIdx (ix1 r) _)).toInt.toNat 4 + 0 + 0 = t.val
    rw [hs, h]
    exact clamp_type t

/-- The table's row at the row's type. -/
theorem take_table {n : ℕ} (wf) (X : (⟨2, ![5, n]⟩ : Shape).Idx → α) (k : Fin n) (h : I (ix2 r 0) = BitVec.ofNat 32 t.val) :
    Host.gather (tableDims n wf) X I (ix2 r k) = X (ix2 t k) := by
  have hs : ∀ z, (tableDims n wf).siIdx (ix2 r k) z = ix2 r 0 := fun z => by
    have hz : z.val < 1 := z.isLt
    funext b
    match b with
    | ⟨0, _⟩ => rfl
    | ⟨1, _⟩ => exact Fin.ext (show z.val = 0 by omega)
  refine congrArg X (funext fun a => Fin.ext ?_)
  match a with
  | ⟨0, _⟩ =>
    change min (I ((tableDims n wf).siIdx (ix2 r k) _)).toInt.toNat 4 + 0 + 0 = t.val
    rw [hs, h]
    exact clamp_type t
  | ⟨1, _⟩ =>
    change 0 + 0 + k.val = k.val
    omega

/-- The stack's matrix at the row's type. -/
theorem take_stack {l n : ℕ} (wf) (X : (⟨3, ![5, l, n]⟩ : Shape).Idx → α) (i : Fin l) (k : Fin n)
    (h : I (ix2 r 0) = BitVec.ofNat 32 t.val) :
    Host.gather (stackDims l n wf) X I (ix3 r i k) = X (ix3 t i k) := by
  have hs : ∀ z, (stackDims l n wf).siIdx (ix3 r i k) z = ix2 r 0 := fun z => by
    have hz : z.val < 1 := z.isLt
    funext b
    match b with
    | ⟨0, _⟩ => rfl
    | ⟨1, _⟩ => exact Fin.ext (show z.val = 0 by omega)
  refine congrArg X (funext fun a => Fin.ext ?_)
  match a with
  | ⟨0, _⟩ =>
    change min (I ((stackDims l n wf).siIdx (ix3 r i k) _)).toInt.toNat 4 + 0 + 0 = t.val
    rw [hs, h]
    exact clamp_type t
  | ⟨1, _⟩ =>
    change 0 + 0 + i.val = i.val
    omega
  | ⟨2, _⟩ =>
    change 0 + 0 + k.val = k.val
    omega

/-- The test that a look-up makes of its index holds of one of the five types, and the read is then what it found. -/
theorem found (h : I (ix2 r 0) = BitVec.ofNat 32 t.val) (a b : α) :
    Scalar.select (Finset.fold IntOp.andi (1#1) (fun x => IntOp.andi (IntOp.cmpi .sge (I (ix2 r x)) 0#32)
      (IntOp.cmpi .sle (I (ix2 r x)) 4#32)) Finset.univ) a b = a := by
  have hu : (Finset.univ : Finset (Fin 1)) = {0} := rfl
  rw [hu, Finset.fold_singleton, h]
  have hb : IntOp.andi (IntOp.andi (IntOp.cmpi .sge (BitVec.ofNat 32 t.val) 0#32) (IntOp.cmpi .sle (BitVec.ofNat 32 t.val) 4#32)) 1#1 = 1#1 := by
    clear h
    revert t
    decide
  rw [hb]
  rfl

/-- One of the five types is not negative, so a look-up's index is the type itself. -/
theorem not_wrapped {w : BitVec 32} (h : w = BitVec.ofNat 32 t.val) :
    Scalar.select (IntOp.cmpi .slt w 0#32) (IntOp.addi w 5#32) w = BitVec.ofNat 32 t.val := by
  subst h
  revert t
  decide

end Cert.Proof.Rows

end
-- ==== Proof.RefRows.lean ====
/-
  The reference's rows: of a row whose type is one of the five, each array that the reference computes holds what the row
  functions say.
-/
module

public import proofs.«01_k».proof.Proof.Gen.ReferenceIdeal.Run
public import proofs.«01_k».proof.Proof.RefTake
public import proofs.«01_k».proof.Proof.RowReal
public import Idealize.ShloMosaic.Lib.Tactic.CleanTypes

@[expose] public section

set_option maxRecDepth 16384

noncomputable section

namespace Cert.Proof.Rows

open Idealize.ShloMosaic Cert.ReferenceIdeal Cert.ReferenceIdeal.Gen Cert.ReferenceIdeal.Value Idealize.SL

/-- The weights as the reference's arguments give them. -/
def refWeights (V : Valuation τ sig (Elt Ideal)) : Weights where
  emb := V (Proc.devRef .tc main_arg2)
  wpe := V (Proc.devRef .tc main_arg3)
  bpe := V (Proc.devRef .tc main_arg4)
  w1 := V (Proc.devRef .tc main_arg5)
  b1 := V (Proc.devRef .tc main_arg6)
  w2 := V (Proc.devRef .tc main_arg7)
  b2 := V (Proc.devRef .tc main_arg8)
  w3 := V (Proc.devRef .tc main_arg9)
  b3 := V (Proc.devRef .tc main_arg10)
  w4 := V (Proc.devRef .tc main_arg11)
  b4 := V (Proc.devRef .tc main_arg12)
  win := V (Proc.devRef .tc main_arg13)
  bin := V (Proc.devRef .tc main_arg14)
  wout := V (Proc.devRef .tc main_arg15)
  bout := V (Proc.devRef .tc main_arg16)
  d1 := V (Proc.devRef .tc main_arg17)
  e1 := V (Proc.devRef .tc main_arg18)
  d2 := V (Proc.devRef .tc main_arg19)
  e2 := V (Proc.devRef .tc main_arg20)
  d3 := V (Proc.devRef .tc main_arg21)
  e3 := V (Proc.devRef .tc main_arg22)
  wc := V (Proc.devRef .tc main_arg23)
  bc := V (Proc.devRef .tc main_arg24)
  wi := V (Proc.devRef .tc main_arg25)
  bi := V (Proc.devRef .tc main_arg26)
  wr := V (Proc.devRef .tc main_arg27)
  br := V (Proc.devRef .tc main_arg28)

/-- The numbers of row `r`. -/
def refNums (V : Valuation τ sig (Elt Ideal)) (r : Fin 16384) : Fin 12 → EReal :=
  fun k => (V (Proc.devRef .tc main_arg0) : FVec Ideal ⟨2, ![16384, 12]⟩ .f32) (ix2 r k)

/-- Row `r` is of type `t`. -/
def RefType (V : Valuation τ sig (Elt Ideal)) (r : Fin 16384) (t : Fin 5) : Prop :=
  (V (Proc.devRef .tc main_arg1) : IVec ⟨1, ![16384]⟩ 32) (ix1 r) = BitVec.ofNat 32 t.val

variable {V : Valuation τ sig (Elt Ideal)} {r : Fin 16384} {t : Fin 5}

/-- The look-ups' index column holds the row's type. -/
theorem index_emb (h : RefType V r t) : res_main_call0_v5 V (ix2 r 0) = BitVec.ofNat 32 t.val := by
  unfold res_main_call0_v5
  clean_types
  pointwise
  exact not_wrapped h

/-- so is the index for the encoder's matrices, -/
theorem index_wpe (h : RefType V r t) : res_main_call1_v5 V (ix2 r 0) = BitVec.ofNat 32 t.val := index_emb h
/-- their offsets, -/
theorem index_bpe (h : RefType V r t) : res_main_call2_v5 V (ix2 r 0) = BitVec.ofNat 32 t.val := index_emb h
/-- the decoder's matrices, -/
theorem index_wr (h : RefType V r t) : res_main_call4_v5 V (ix2 r 0) = BitVec.ofNat 32 t.val := index_emb h
/-- their offsets -/
theorem index_br (h : RefType V r t) : res_main_call5_v5 V (ix2 r 0) = BitVec.ofNat 32 t.val := index_emb h
/-- and the counts. -/
theorem index_dims (h : RefType V r t) : res_main_call6_v5 V (ix2 r 0) = BitVec.ofNat 32 t.val := index_emb h

section Takes

variable {α : Type} {I : IVec S16384x1 32}

/-- An embedding's entry is the type's, -/
theorem take_emb (h : I (ix2 r 0) = BitVec.ofNat 32 t.val) (X : S5x16.Idx → α) (k : Fin 16) :
    Host.gather gather_S5x16_S16384x1_S16384x16_1_0_n_n_0_1_116 X I (ix2 r k) = X (ix2 t k) := take_table _ X k h
/-- an offset's, -/
theorem take_bpe (h : I (ix2 r 0) = BitVec.ofNat 32 t.val) (X : S5x32.Idx → α) (k : Fin 32) :
    Host.gather gather_S5x32_S16384x1_S16384x32_1_0_n_n_0_1_132 X I (ix2 r k) = X (ix2 t k) := take_table _ X k h
/-- a decoder's offset's, -/
theorem take_br (h : I (ix2 r 0) = BitVec.ofNat 32 t.val) (X : S5x12.Idx → α) (k : Fin 12) :
    Host.gather gather_S5x12_S16384x1_S16384x12_1_0_n_n_0_1_112 X I (ix2 r k) = X (ix2 t k) := take_table _ X k h
/-- a matrix's, -/
theorem take_wpe (h : I (ix2 r 0) = BitVec.ofNat 32 t.val) (X : S5x32x12.Idx → α) (i : Fin 32) (k : Fin 12) :
    Host.gather gather_S5x32x12_S16384x1_S16384x32x12_12_0_n_n_0_1_13212 X I (ix3 r i k) = X (ix3 t i k) := take_stack _ X i k h
/-- a decoder's matrix's -/
theorem take_wr (h : I (ix2 r 0) = BitVec.ofNat 32 t.val) (X : S5x12x32.Idx → α) (i : Fin 12) (k : Fin 32) :
    Host.gather gather_S5x12x32_S16384x1_S16384x12x32_12_0_n_n_0_1_11232 X I (ix3 r i k) = X (ix3 t i k) := take_stack _ X i k h
/-- and a count. -/
theorem take_dims (h : I (ix2 r 0) = BitVec.ofNat 32 t.val) (X : S5.Idx → α) :
    Host.gather gather_S5_S16384x1_S16384_n_0_n_n_0_1_1 X I (ix1 r) = X (ix1 t) := take_list _ X h

end Takes

/-- The embedding. -/
theorem ref_emb (h : RefType V r t) (k : Fin 16) : res_main_v0 V (ix2 r k) = (refWeights V).emb (ix2 t k) := by
  unfold res_main_v0
  clean_types
  pointwise
  exact (found (index_emb h) _ _).trans (take_emb (index_emb h) _ k)

/-- The constants' entries. -/
theorem shift_at (i : Fin 4) : Ideal.ofBits .f32 (lit0 (S4.rowMajor (ix1 i))) = shiftC i := by fin_cases i <;> rfl
/-- the half range, -/
theorem half_at (i : Fin 4) : Ideal.ofBits .f32 (lit1 (S4.rowMajor (ix1 i))) = halfL i := by fin_cases i <;> rfl
/-- the offset, -/
theorem off_at (i : Fin 4) : Ideal.ofBits .f32 (lit2 (S4.rowMajor (ix1 i))) = offC i := by fin_cases i <;> rfl
/-- the half width -/
theorem width_at (i : Fin 4) : Ideal.ofBits .f32 (lit3 (S4.rowMajor (ix1 i))) = halfW i := by fin_cases i <;> rfl
/-- and the place value. -/
theorem place_at (i : Fin 4) : Ideal.ofBits .f32 (lit4 (S4.rowMajor (ix1 i))) = placeC i := by fin_cases i <;> rfl

/-- The bounded numbers. -/
theorem ref_bounded (h : RefType V r t) (i : Fin 4) :
    res_main_v46 V (ix2 r i) = rowBounded (refWeights V) t (refNums V r) i := by
  unfold res_main_v46
  clean_types
  pointwise
  simp only [ref_emb h, found (index_wpe h), found (index_bpe h), take_wpe (index_wpe h), take_bpe (index_bpe h), shift_at,
    half_at, off_at]
  rfl

/-- The codes. -/
theorem ref_code (h : RefType V r t) (i : Fin 4) :
    res_main_v52 V (ix2 r i) = rowCode (refWeights V) t (refNums V r) i := by
  unfold res_main_v52 res_main_cst_2
  clean_types
  pointwise
  simp only [ref_bounded h, width_at]
  exact congrArg (fun y => Ideal.div y (halfW i)) (straight_through (refWeights V) t (refNums V r) i)

/-- The quantised row. -/
theorem ref_zq (h : RefType V r t) (n : Fin 128) :
    res_main_v68 V (ix2 r n) = rowZq (refWeights V) t (refNums V r) n := by
  unfold res_main_v68
  clean_types
  pointwise
  simp only [ref_code h]
  rfl

end Cert.Proof.Rows

end
-- ==== Proof.RefOut.lean ====
/-
  The reference's run: each of its six results, row by row.
-/
module

public import proofs.«01_k».proof.Proof.RefRows

@[expose] public section

set_option maxRecDepth 16384

noncomputable section

namespace Cert.Proof.Rows

open Idealize.ShloMosaic Idealize.ShloMosaic.StableHlo Cert.ReferenceIdeal Cert.ReferenceIdeal.Gen Cert.ReferenceIdeal.Value Idealize.SL

/-- The counts' entries. -/
theorem used_at (t : Fin 5) : lit5 (S5.rowMajor (ix1 t)) = used t := by fin_cases t <;> rfl

/-- From any launch in which each row's type is one of the five, the six results hold what the row functions say. -/
theorem run_rows (m : (ℓ : Loc nD τ sig) → Buf (Elt Ideal) ℓ) (ρ : Dev nD → PrngReg) (ty : Dev nD → Fin 16384 → Fin 5)
    (hty : ∀ c r, RefType (launchContents m c) r (ty c r)) :
    θ_run (defs (F := Ideal)) (onTc (τ := τ) (main (F := Ideal))) ⟨m, fun _ => 0, ρ⟩ fun s => ∀ c : Dev nD,
      (∀ r i, (s.2.mem ((c.tc : Thread nD τ).loc main_v102) : FVec Ideal S16384x12 .f32) (ix2 r i)
        = rowRecon (refWeights (launchContents m c)) (ty c r) (refNums (launchContents m c) r) i)
      ∧ (∀ r k, (s.2.mem ((c.tc : Thread nD τ).loc main_v109) : IVec S16384x12 1) (ix2 r k) = rowMask (ty c r) k)
      ∧ (∀ r n, (s.2.mem ((c.tc : Thread nD τ).loc main_v73) : FVec Ideal S16384x5 .f32) (ix2 r n)
        = rowCls (refWeights (launchContents m c)) (ty c r) (refNums (launchContents m c) r) n)
      ∧ (∀ r n, (s.2.mem ((c.tc : Thread nD τ).loc main_v78) : FVec Ideal S16384x2 .f32) (ix2 r n)
        = rowIsc (refWeights (launchContents m c)) (ty c r) (refNums (launchContents m c) r) n)
      ∧ (∀ r n, (s.2.mem ((c.tc : Thread nD τ).loc main_v68) : FVec Ideal S16384x128 .f32) (ix2 r n)
        = rowZq (refWeights (launchContents m c)) (ty c r) (refNums (launchContents m c) r) n)
      ∧ (∀ r, (s.2.mem ((c.tc : Thread nD τ).loc main_v63) : IVec S16384 32) (ix1 r)
        = rowIdx (refWeights (launchContents m c)) (ty c r) (refNums (launchContents m c) r)) := by
  refine (θ_run _ _ _).mono (fun s h c => ?_) (run m ρ)
  obtain ⟨h1, h2, h3, h4, h5, h6, -⟩ := h c
  refine ⟨fun r i => ?_, fun r k => ?_, fun r n => ?_, fun r n => ?_, fun r n => ?_, fun r => ?_⟩
  · have ht := hty c r
    rw [h1]
    clean_types
    pointwise
    simp only [ref_zq ht, ref_emb ht, found (index_wr ht), found (index_br ht), take_wr (index_wr ht), take_br (index_br ht)]
    rfl
  · have ht := hty c r
    rw [h2]
    clean_types
    pointwise
    exact congrArg (IntOp.cmpi .slt (BitVec.ofNat 32 k.val)) ((found (index_dims ht) _ _).trans ((take_dims (index_dims ht) _).trans (used_at _)))
  · have ht := hty c r
    rw [h3]
    clean_types
    pointwise
    simp only [ref_zq ht]
    rfl
  · have ht := hty c r
    rw [h4]
    clean_types
    pointwise
    simp only [ref_zq ht]
    rfl
  · rw [h5]
    exact ref_zq (hty c r) n
  · have ht := hty c r
    rw [h6]
    unfold res_main_cst_2
    clean_types
    pointwise
    simp only [ref_code ht, width_at, place_at, code_mul]
    rfl

end Cert.Proof.Rows

end
-- ==== Proof.RefFrames.lean ====
/-
  The frames of the reference: host operations alone, which write no argument and use no semaphore.
-/
module

public import proofs.«01_k».proof.Defs
public import proofs.«01_k».proof.Proof.Gen.ReferenceIdeal
public import proofs.«01_k».proof.Proof.Gen.ReferenceIdeal.Run
public import proofs.«01_k».proof.Proof.Gen.Pre_types_in_range
public import Idealize.ShloMosaic.Lib.Quiescent

@[expose] public section

noncomputable section

namespace Cert.Proof.Run

open Idealize.ShloMosaic Idealize.SL.Sem

/-- The reference runs, leaves its arguments as they were and every counter at zero, -/
theorem frame_reference : Cert.quiescent_ReferenceIdeal := fun m ρ _ =>
  (θ_run Cert.ReferenceIdeal.defs _ _).mono
    (fun _ h => ⟨fun c => (h c).2.2.2.2.2.2, sem_eq_zero_of_no_sems rfl _⟩)
    (Cert.ReferenceIdeal.Value.run (F := Ideal) m ρ)

/-- under the precondition too. -/
theorem frame_reference_pre : Cert.quiescent_ReferenceIdeal_pre_types_in_range := fun m ρ _ =>
  frame_reference m ρ trivial

end Cert.Proof.Run

end
-- ==== Proof.Algebraic.lean ====
/-
  The kernel's results are the reference's: the precondition gives each row its type, and then both programs' arrays are
  the row functions of the same weights, types and numbers.
-/
module

public import proofs.«01_k».proof.Proof.KernelRun
public import proofs.«01_k».proof.Proof.RefOut
public import proofs.«01_k».proof.Proof.RefFrames
public import Idealize.ShloMosaic.Lib.ReduceAll
public import Idealize.ShloMosaic.Lib.Affine
public import Idealize.ShloMosaic.Lib.Claim

@[expose] public section

set_option maxRecDepth 16384

noncomputable section

namespace Cert.Proof.Run

open Cert.Proof.Rows
open Idealize.ShloMosaic Idealize.ShloMosaic.StableHlo Idealize.SL.Sem

/-- A word between zero and four is one of the five types. -/
theorem type_of_bounds (x : BitVec 32) (h0 : (0#32).toInt ≤ x.toInt) (h5 : x.toInt < (5#32).toInt) : ∃ t : Fin 5, x = BitVec.ofNat 32 t.val := by
  have e0 : (0#32).toInt = 0 := by decide
  have e5 : (5#32).toInt = 5 := by decide
  rw [e0] at h0
  rw [e5] at h5
  have hx : x.toInt = (x.toNat : ℤ) := BitVec.toInt_eq_toNat_of_lt (by
    by_contra hc
    have := BitVec.toInt_neg_iff.mpr (not_lt.mp hc)
    omega)
  exact ⟨⟨x.toNat, by omega⟩, BitVec.eq_of_toNat_eq (by simp)⟩

/-- The precondition: every row's type is one of the five. -/
theorem row_types (m : (ℓ : Loc Cert.KernelIdeal.nD Cert.KernelIdeal.τ Cert.KernelIdeal.sig) → Buf (Elt Ideal) ℓ)
    (hpre : Cert.Pre_KernelIdeal_types_in_range m) (c : Dev Cert.KernelIdeal.nD) (r : Fin 16384) :
    ∃ t : Fin 5, KerType (launchContents m c) r t := by
  have h := congrFun (hpre c) (fun a => a.elim0)
  dsimp only [Cert.Pre_types_in_range.fn] at h
  haveI : Subsingleton Cert.Pre_types_in_range.S_.Idx := ⟨fun a b => funext fun x => x.elim0⟩
  have hr := Host.reduce_andi_all _ _ _ _ _ h (ix1 r)
  obtain ⟨h0, h5⟩ := IntOp.andi_eq_one.mp hr
  exact type_of_bounds _ (IntOp.cmpi_sge.mp h0) (IntOp.cmpi_slt.mp h5)

/-- Two arrays of rows with the same entries are the same array. -/
theorem same_rows {α : Type} {n0 n1 : ℕ} {x y : (⟨2, ![n0, n1]⟩ : Shape).Idx → α} {f : Fin n0 → Fin n1 → α}
    (hx : ∀ r i, x (ix2 r i) = f r i) (hy : ∀ r i, y (ix2 r i) = f r i) : x = y :=
  funext fun j => (congrArg x (ValueIdx.eq_ix2 j)).trans ((hx _ _).trans ((hy _ _).symm.trans (congrArg y (ValueIdx.eq_ix2 j)).symm))

/-- And two lists. -/
theorem same_list {α : Type} {n : ℕ} {x y : (⟨1, ![n]⟩ : Shape).Idx → α} {f : Fin n → α}
    (hx : ∀ r, x (ix1 r) = f r) (hy : ∀ r, y (ix1 r) = f r) : x = y :=
  funext fun j => (congrArg x (ValueIdx.eq_ix1 j)).trans ((hx _).trans ((hy _).symm.trans (congrArg y (ValueIdx.eq_ix1 j)).symm))

/-- Where the types are in range and the launches agree on the arguments, the two programs end with the same six
results, and both keep their arguments. -/
theorem algebraic : Cert.algebraic_KernelIdeal_ReferenceIdeal_pre_types_in_range := by
  intro m g m' g' hpre hagree
  choose ty hty using row_types m hpre
  have hargs : ∀ c : Dev Cert.KernelIdeal.nD, refWeights (launchContents m' c) = kerWeights (launchContents m c)
      ∧ refNums (launchContents m' c) = kerNums (launchContents m c)
      ∧ ∀ r, RefType (launchContents m' c) r (ty c r) := by
    intro c
    obtain ⟨a0, a1, a2, a3, a4, a5, a6, a7, a8, a9, a10, a11, a12, a13, a14, a15, a16, a17, a18, a19, a20, a21, a22, a23, a24, a25, a26, a27, a28⟩ := hagree c
    refine ⟨?_, funext fun r => funext fun k => congrFun a0 (ix2 r k), fun r => (congrFun a1 (ix1 r)).trans (hty c r)⟩
    unfold refWeights kerWeights
    exact (Weights.mk.injEq ..).mpr
      ⟨a2, a3, a4, a5, a6, a7, a8, a9, a10, a11, a12, a13, a14, a15, a16, a17, a18, a19, a20, a21, a22, a23, a24, a25, a26, a27, a28⟩
  refine ⟨fun c => V4 m c (Proc.devRef .tc Cert.KernelIdeal.main_v17), fun c => V4 m c (Proc.devRef .tc Cert.KernelIdeal.main_v16),
    fun c => V4 m c (Proc.devRef .tc Cert.KernelIdeal.main_v18), fun c => V4 m c (Proc.devRef .tc Cert.KernelIdeal.main_v19),
    fun c => V4 m c (Proc.devRef .tc Cert.KernelIdeal.main_v13_3), fun c => V4 m c (Proc.devRef .tc Cert.KernelIdeal.main_v20), ?_, ?_⟩
  · refine (θ_run Cert.KernelIdeal.defs _ _).mono (fun s h c => ?_) (θ_run_and (run_main m g) (frame_ideal m g trivial))
    exact ⟨h.1.1 c _ rfl, h.1.1 c _ rfl, h.1.1 c _ rfl, h.1.1 c _ rfl, h.1.1 c _ rfl, h.1.1 c _ rfl, h.2.1 c⟩
  · refine (θ_run Cert.ReferenceIdeal.defs _ _).mono (fun s h c => ?_)
      (θ_run_and (run_rows m' g' ty fun c => (hargs c).2.2) (frame_reference m' g' trivial))
    obtain ⟨h1, h2, h3, h4, h5, h6⟩ := h.1 c
    rw [(hargs c).1, (hargs c).2.1] at h1 h3 h4 h5 h6
    exact ⟨same_rows h1 (V4_recon m c (hty c)), same_rows h2 (V4_mask m c (hty c)), same_rows h3 (V4_cls m c (hty c)),
      same_rows h4 (V4_isc m c (hty c)), same_rows h5 (V4_zq m c (hty c)), same_list h6 (V4_idx m c (hty c)), h.2.1 c⟩

end Cert.Proof.Run

end
-- ==== Proof.lean ====
/-
  The proof of `Cert.Claim`: the frames of the kernel and of the reference, the kernel over the reals being the kernel,
  and its six results being the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_types_in_range
public import proofs.«01_k».proof.Proof.Algebraic

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Cert.Pre_types_in_range.Gen.facts,
    Run.frame_kernel, Run.frame_ideal, Run.frame_ideal_pre, Run.frame_reference, Run.frame_reference_pre, trivial, Run.algebraic⟩

end Cert.Proof

end
